-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_two_per_class [hPre_two_per_class : Cert.Pre_two_per_class.Facts] (m : (ℓ : Loc Cert.KernelIdeal.nD Cert.KernelIdeal.τ Cert.KernelIdeal.sig) → Buf (Elt Ideal) ℓ) : Prop :=
  ∀ c : Dev Cert.KernelIdeal.nD,
    (Cert.Pre_two_per_class.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_two_per_class [hPre_two_per_class : Cert.Pre_two_per_class.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_two_per_class.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_two_per_class [hKernelIdeal : Cert.KernelIdeal.Facts] [hPre_two_per_class : Cert.Pre_two_per_class.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_two_per_class m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_two_per_class [hReferenceIdeal : Cert.ReferenceIdeal.Facts] [hPre_two_per_class : Cert.Pre_two_per_class.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_two_per_class m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_two_per_class [hKernelIdeal : Cert.KernelIdeal.Facts] [hReferenceIdeal : Cert.ReferenceIdeal.Facts] [hPre_two_per_class : Cert.Pre_two_per_class.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_two_per_class m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_never_above [hKernelIdeal : Cert.KernelIdeal.Facts] [hPost_never_above : Cert.Post_never_above.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_never_above.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v5))) = (fun _ => 1#1))

def holds_KernelIdeal_of_two_per_class [hKernelIdeal : Cert.KernelIdeal.Facts] [hPost_of_two_per_class : Cert.Post_of_two_per_class.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_of_two_per_class.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v5))) = (fun _ => 1#1))

def Claim : Prop :=
  ∃ (hKernel : Cert.Kernel.Facts) (hKernelIdeal : Cert.KernelIdeal.Facts) (hReferenceIdeal : Cert.ReferenceIdeal.Facts) (hPre_two_per_class : Cert.Pre_two_per_class.Facts) (hPost_never_above : Cert.Post_never_above.Facts) (hPost_of_two_per_class : Cert.Post_of_two_per_class.Facts),
    quiescent_Kernel (hKernel := hKernel)
    ∧ quiescent_KernelIdeal (hKernelIdeal := hKernelIdeal)
    ∧ quiescent_KernelIdeal_pre_two_per_class (hKernelIdeal := hKernelIdeal) (hPre_two_per_class := hPre_two_per_class)
    ∧ quiescent_ReferenceIdeal (hReferenceIdeal := hReferenceIdeal)
    ∧ quiescent_ReferenceIdeal_pre_two_per_class (hReferenceIdeal := hReferenceIdeal) (hPre_two_per_class := hPre_two_per_class)
    ∧ preserves_Kernel_KernelIdeal
    ∧ algebraic_KernelIdeal_ReferenceIdeal_pre_two_per_class (hKernelIdeal := hKernelIdeal) (hReferenceIdeal := hReferenceIdeal) (hPre_two_per_class := hPre_two_per_class)
    ∧ holds_KernelIdeal_never_above (hKernelIdeal := hKernelIdeal) (hPost_never_above := hPost_never_above)
    ∧ holds_KernelIdeal_of_two_per_class (hKernelIdeal := hKernelIdeal) (hPost_of_two_per_class := hPost_of_two_per_class)
-- ==== Post_never_above.lean ====
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S2048x4096 : Shape := ⟨2, ![2048, 4096]⟩
abbrev S4096x4096 : Shape := ⟨2, ![4096, 4096]⟩
abbrev S4096x16 : Shape := ⟨2, ![4096, 16]⟩
abbrev S65536 : Shape := ⟨1, ![65536]⟩

class Facts : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  transposes_S4096x2048_S2048x4096_1_0 : S4096x2048.Transposes [1, 0] S2048x4096
  bcast_S_S4096x4096 : S_.BroadcastsInDim S4096x4096 (![] : Fin 0 → Fin S4096x4096.rank)
  bcast_S_S4096 : S_.BroadcastsInDim S4096 (![] : Fin 0 → Fin S4096.rank)
  bcast_S4096_S4096x16_0 : S4096.BroadcastsInDim S4096x16 (![0] : Fin 1 → Fin S4096x16.rank)
  shapeCasts_S4096x16_S65536 : S4096x16.ShapeCasts S65536
  sliceFits_S4096x4096_S4096x16 : S4096x4096.Slices (fun _ => 0) S4096x16
  bcast_S_S65536 : S_.BroadcastsInDim S65536 (![] : Fin 0 → Fin S65536.rank)
  reducesTo_S65536_S_d0 : S65536.ReducesTo [0] S_
  dot_S4096x2048_S2048x4096_S4096x4096_1_0_0_1_n_n_wf : DotDims.WF S4096x2048 S2048x4096 S4096x4096 [1] [0] [0] [1] [] []

variable [Facts]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def fn_norm {F : FTy → Type} [FloatOps F] (arg0 : FVec F S4096x2048 .f32) : FVec F S4096x1 .f32 :=
  let v0 : FVec F S4096x2048 .f32 := mulf arg0 arg0
  let cst : FVec F S_ .f32 := constant S_ .f32 0x00000000#32
  let v1 : FVec F S4096 .f32 := (fun x v => Host.reduceAdd x v reducesTo_S4096x2048_S4096_d1 h_S_) v0 cst
  let v2 : FVec F S4096x1 .f32 := broadcastInDim S4096x1 ![0] bcast_S4096_S4096x1_0 v1
  let v3 : FVec F S4096x1 .f32 := Host.sqrt v2
  v3

def fn_where {F : FTy → Type} [FloatOps F] (arg0 : IVec S4096x4096 1) (arg1 : FVec F S_ .f32) (arg2 : FVec F S4096x4096 .f32) : FVec F S4096x4096 .f32 :=
  let v0 : FVec F S4096x4096 .f32 := broadcastInDim S4096x4096 ![] bcast_S_S4096x4096 arg1
  let v1 : FVec F S4096x4096 .f32 := select arg0 v0 arg2
  v1

def fn_part2 {F : FTy → Type} [FloatOps F] (main_arg2 : FVec F S_ .f32) (main_v34 : FVec F S65536 .f32) (main_v35 : FVec F S65536 .f32) : IVec S_ 1 :=
  let main_v36 : FVec F S65536 .f32 := addf main_v34 main_v35
  let main_cst_8 : FVec F S_ .f32 := constant S_ .f32 0x00000000#32
  let main_v37 : FVec F S65536 .f32 := broadcastInDim S65536 ![] bcast_S_S65536 main_cst_8
  let main_v38 : FVec F S65536 .f32 := maximumf main_v37 main_v36
  let main_cst_9 : FVec F S_ .f32 := constant S_ .f32 0x00000000#32
  let main_v39 : FVec F S_ .f32 := (fun x v => Host.reduceAdd x v reducesTo_S65536_S_d0 h_S_) main_v38 main_cst_9
  let main_cst_10 : FVec F S_ .f32 := constant S_ .f32 0x47800000#32
  let main_v40 : FVec F S_ .f32 := Host.divf main_v39 main_cst_10
  let main_v41 : IVec S_ 1 := cmpf .ole main_arg2 main_v40
  main_v41

def fn_part1 {F : FTy → Type} [FloatOps F] (main_arg2 : FVec F S_ .f32) (main_v13 : FVec F S4096x4096 .f32) (main_v18 : FVec F S4096x16 .f32) : IVec S_ 1 :=
  let main_v19 : FVec F S65536 .f32 := shapeCast S65536 main_v18 shapeCasts_S4096x16_S65536
  let main_v20 : IVec S4096x4096 32 := iotaInDim S4096x4096 32 0
  let main_v21 : IVec S4096x4096 32 := iotaInDim S4096x4096 32 1
  let main_c : IVec S_ 32 := constantI S_ 32 0#32
  let main_v22 : IVec S4096x4096 32 := broadcastInDim S4096x4096 ![] bcast_S_S4096x4096 main_c
  let main_v23 : IVec S4096x4096 32 := addi main_v20 main_v22
  let main_v24 : IVec S4096x4096 1 := cmpi .eq main_v23 main_v21
  let main_cst_4 : FVec F S_ .f32 := constant S_ .f32 0x7F7FFFFF#32
  let main_v25 : FVec F S4096x4096 .f32 := fn_where (F := F) main_v24 main_cst_4 main_v13
  let main_v26 : FVec F S4096x4096 .f32 := Host.negf main_v25
  let main_values : FVec F S4096x16 .f32 := (fun x => (Host.topK S4096x16 1 (FloatOps.cmpfTotal .gt) x sliceFits_S4096x4096_S4096x16).1) main_v26
  let main_indices : IVec S4096x16 32 := (fun x => (Host.topK S4096x16 1 (FloatOps.cmpfTotal .gt) x sliceFits_S4096x4096_S4096x16).2) main_v26
  let main_v27 : FVec F S4096x16 .f32 := Host.negf main_values
  let main_v28 : FVec F S65536 .f32 := shapeCast S65536 main_v27 shapeCasts_S4096x16_S65536
  let main_cst_5 : FVec F S_ .f32 := constant S_ .f32 0x3F800000#32
  let main_v29 : FVec F S65536 .f32 := broadcastInDim S65536 ![] bcast_S_S65536 main_cst_5
  let main_v30 : FVec F S65536 .f32 := Host.negf main_v29
  let main_cst_6 : FVec F S_ .f32 := constant S_ .f32 0x3F800000#32
  let main_v31 : FVec F S65536 .f32 := broadcastInDim S65536 ![] bcast_S_S65536 main_cst_6
  let main_v32 : FVec F S65536 .f32 := mulf main_v31 main_v19
  let main_v33 : FVec F S65536 .f32 := subf main_v28 main_v32
  let main_v34 : FVec F S65536 .f32 := mulf main_v30 main_v33
  let main_cst_7 : FVec F S_ .f32 := constant S_ .f32 0x40000000#32
  let main_v35 : FVec F S65536 .f32 := broadcastInDim S65536 ![] bcast_S_S65536 main_cst_7
  fn_part2 (F := F) main_arg2 main_v34 main_v35

def fn {F : FTy → Type} [FloatOps F] (main_arg0 : FVec F S4096x2048 .f32) (main_arg1 : FVec F S4096x2048 .f32) (main_arg2 : FVec F S_ .f32) : IVec S_ 1 :=
  let main_v0 : FVec F S4096x1 .f32 := fn_norm (F := F) main_arg0
  let main_cst : FVec F S_ .f32 := constant S_ .f32 0x2B8CBCCC#32
  let main_v1 : FVec F S4096x1 .f32 := broadcastInDim S4096x1 ![] bcast_S_S4096x1 main_cst
  let main_v2 : FVec F S4096x1 .f32 := maximumf main_v0 main_v1
  let main_v3 : FVec F S4096x2048 .f32 := broadcastInDim S4096x2048 ![0, 1] bcast_S4096x1_S4096x2048_0_1 main_v2
  let main_v4 : FVec F S4096x2048 .f32 := Host.divf main_arg0 main_v3
  let main_v5 : FVec F S4096x1 .f32 := fn_norm (F := F) main_arg1
  let main_cst_0 : FVec F S_ .f32 := constant S_ .f32 0x2B8CBCCC#32
  let main_v6 : FVec F S4096x1 .f32 := broadcastInDim S4096x1 ![] bcast_S_S4096x1 main_cst_0
  let main_v7 : FVec F S4096x1 .f32 := maximumf main_v5 main_v6
  let main_v8 : FVec F S4096x2048 .f32 := broadcastInDim S4096x2048 ![0, 1] bcast_S4096x1_S4096x2048_0_1 main_v7
  let main_v9 : FVec F S4096x2048 .f32 := Host.divf main_arg1 main_v8
  let main_v10 : FVec F S2048x4096 .f32 := (transpose S2048x4096 [1, 0] · transposes_S4096x2048_S2048x4096_1_0) main_v9
  let main_v11 : FVec F S4096x4096 .f32 := (fun l r => Host.dotGeneral dot_S4096x2048_S2048x4096_S4096x4096_1_0_0_1_n_n none l r) main_v4 main_v10
  let main_cst_1 : FVec F S_ .f32 := constant S_ .f32 0xBF800000#32
  let main_v12 : FVec F S4096x4096 .f32 := broadcastInDim S4096x4096 ![] bcast_S_S4096x4096 main_cst_1
  let main_v13 : FVec F S4096x4096 .f32 := mulf main_v12 main_v11
  let main_v14 : FVec F S4096x2048 .f32 := mulf main_v4 main_v9
  let main_cst_2 : FVec F S_ .f32 := constant S_ .f32 0x00000000#32
  let main_v15 : FVec F S4096 .f32 := (fun x v => Host.reduceAdd x v reducesTo_S4096x2048_S4096_d1 h_S_) main_v14 main_cst_2
  let main_cst_3 : FVec F S_ .f32 := constant S_ .f32 0xBF800000#32
  let main_v16 : FVec F S4096 .f32 := broadcastInDim S4096 ![] bcast_S_S4096 main_cst_3
  let main_v17 : FVec F S4096 .f32 := mulf main_v16 main_v15
  let main_v18 : FVec F S4096x16 .f32 := broadcastInDim S4096x16 ![0] bcast_S4096_S4096x16_0 main_v17
  fn_part1 (F := F) main_arg2 main_v13 main_v18
-- ==== Post_of_two_per_class.lean ====
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S2048x4096 : Shape := ⟨2, ![2048, 4096]⟩
abbrev S4096x4096 : Shape := ⟨2, ![4096, 4096]⟩
abbrev S4096x32x128 : Shape := ⟨3, ![4096, 32, 128]⟩
abbrev S4096x128x32 : Shape := ⟨3, ![4096, 128, 32]⟩
abbrev S4096x128x2 : Shape := ⟨3, ![4096, 128, 2]⟩
abbrev S4096x256 : Shape := ⟨2, ![4096, 256]⟩
abbrev S4096x16 : Shape := ⟨2, ![4096, 16]⟩

class Facts : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  transposes_S4096x2048_S2048x4096_1_0 : S4096x2048.Transposes [1, 0] S2048x4096
  bcast_S_S4096x4096 : S_.BroadcastsInDim S4096x4096 (![] : Fin 0 → Fin S4096x4096.rank)
  shapeCasts_S4096x4096_S4096x32x128 : S4096x4096.ShapeCasts S4096x32x128
  transposes_S4096x32x128_S4096x128x32_0_2_1 : S4096x32x128.Transposes [0, 2, 1] S4096x128x32
  sliceFits_S4096x128x32_S4096x128x2 : S4096x128x32.Slices (fun _ => 0) S4096x128x2
  shapeCasts_S4096x128x2_S4096x256 : S4096x128x2.ShapeCasts S4096x256
  sliceFits_S4096x256_S4096x16 : S4096x256.Slices (fun _ => 0) S4096x16
  bcast_S4096x1_S4096x16_0_1 : S4096x1.BroadcastsInDim S4096x16 (![0, 1] : Fin 2 → Fin S4096x16.rank)
  reducesTo_S4096x16_S_d0_1 : S4096x16.ReducesTo [0, 1] S_
  dot_S4096x2048_S2048x4096_S4096x4096_1_0_0_1_n_n_wf : DotDims.WF S4096x2048 S2048x4096 S4096x4096 [1] [0] [0] [1] [] []

variable [Facts]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def fn_norm {F : FTy → Type} [FloatOps F] (arg0 : FVec F S4096x2048 .f32) : FVec F S4096x1 .f32 :=
  let v0 : FVec F S4096x2048 .f32 := mulf arg0 arg0
  let cst : FVec F S_ .f32 := constant S_ .f32 0x00000000#32
  let v1 : FVec F S4096 .f32 := (fun x v => Host.reduceAdd x v reducesTo_S4096x2048_S4096_d1 h_S_) v0 cst
  let v2 : FVec F S4096x1 .f32 := broadcastInDim S4096x1 ![0] bcast_S4096_S4096x1_0 v1
  let v3 : FVec F S4096x1 .f32 := Host.sqrt v2
  v3

def fn_where {F : FTy → Type} [FloatOps F] (arg0 : IVec S4096x4096 1) (arg1 : FVec F S_ .f32) (arg2 : FVec F S4096x4096 .f32) : FVec F S4096x4096 .f32 :=
  let v0 : FVec F S4096x4096 .f32 := broadcastInDim S4096x4096 ![] bcast_S_S4096x4096 arg1
  let v1 : FVec F S4096x4096 .f32 := select arg0 v0 arg2
  v1

def fn_part1 {F : FTy → Type} [FloatOps F] (main_arg2 : FVec F S_ .f32) (main_v11 : FVec F S4096x4096 .f32) (main_v14 : FVec F S4096x1 .f32) (main_v19 : IVec S4096x4096 1) : IVec S_ 1 :=
  let main_cst_2 : FVec F S_ .f32 := constant S_ .f32 0xFF7FFFFF#32
  let main_v20 : FVec F S4096x4096 .f32 := fn_where (F := F) main_v19 main_cst_2 main_v11
  let main_v21 : FVec F S4096x32x128 .f32 := shapeCast S4096x32x128 main_v20 shapeCasts_S4096x4096_S4096x32x128
  let main_v22 : FVec F S4096x128x32 .f32 := (transpose S4096x128x32 [0, 2, 1] · transposes_S4096x32x128_S4096x128x32_0_2_1) main_v21
  let main_values : FVec F S4096x128x2 .f32 := (fun x => (Host.topK S4096x128x2 2 (FloatOps.cmpfTotal .gt) x sliceFits_S4096x128x32_S4096x128x2).1) main_v22
  let main_indices : IVec S4096x128x2 32 := (fun x => (Host.topK S4096x128x2 2 (FloatOps.cmpfTotal .gt) x sliceFits_S4096x128x32_S4096x128x2).2) main_v22
  let main_v23 : FVec F S4096x256 .f32 := shapeCast S4096x256 main_values shapeCasts_S4096x128x2_S4096x256
  let main_values_3 : FVec F S4096x16 .f32 := (fun x => (Host.topK S4096x16 1 (FloatOps.cmpfTotal .gt) x sliceFits_S4096x256_S4096x16).1) main_v23
  let main_indices_4 : IVec S4096x16 32 := (fun x => (Host.topK S4096x16 1 (FloatOps.cmpfTotal .gt) x sliceFits_S4096x256_S4096x16).2) main_v23
  let main_v24 : FVec F S4096x16 .f32 := broadcastInDim S4096x16 ![0, 1] bcast_S4096x1_S4096x16_0_1 main_v14
  let main_v25 : FVec F S4096x16 .f32 := subf main_v24 main_values_3
  let main_cst_5 : FVec F S_ .f32 := constant S_ .f32 0x00000000#32
  let main_v26 : FVec F S_ .f32 := (fun x v => Host.reduceAdd x v reducesTo_S4096x16_S_d0_1 h_S_) main_v25 main_cst_5
  let main_cst_6 : FVec F S_ .f32 := constant S_ .f32 0x47800000#32
  let main_v27 : FVec F S_ .f32 := Host.divf main_v26 main_cst_6
  let main_cst_7 : FVec F S_ .f32 := constant S_ .f32 0x40000000#32
  let main_v28 : FVec F S_ .f32 := subf main_cst_7 main_v27
  let main_v29 : IVec S_ 1 := cmpf .oeq main_arg2 main_v28
  main_v29

def fn {F : FTy → Type} [FloatOps F] (main_arg0 : FVec F S4096x2048 .f32) (main_arg1 : FVec F S4096x2048 .f32) (main_arg2 : FVec F S_ .f32) : IVec S_ 1 :=
  let main_v0 : FVec F S4096x1 .f32 := fn_norm (F := F) main_arg0
  let main_cst : FVec F S_ .f32 := constant S_ .f32 0x2B8CBCCC#32
  let main_v1 : FVec F S4096x1 .f32 := broadcastInDim S4096x1 ![] bcast_S_S4096x1 main_cst
  let main_v2 : FVec F S4096x1 .f32 := maximumf main_v0 main_v1
  let main_v3 : FVec F S4096x2048 .f32 := broadcastInDim S4096x2048 ![0, 1] bcast_S4096x1_S4096x2048_0_1 main_v2
  let main_v4 : FVec F S4096x2048 .f32 := Host.divf main_arg0 main_v3
  let main_v5 : FVec F S4096x1 .f32 := fn_norm (F := F) main_arg1
  let main_cst_0 : FVec F S_ .f32 := constant S_ .f32 0x2B8CBCCC#32
  let main_v6 : FVec F S4096x1 .f32 := broadcastInDim S4096x1 ![] bcast_S_S4096x1 main_cst_0
  let main_v7 : FVec F S4096x1 .f32 := maximumf main_v5 main_v6
  let main_v8 : FVec F S4096x2048 .f32 := broadcastInDim S4096x2048 ![0, 1] bcast_S4096x1_S4096x2048_0_1 main_v7
  let main_v9 : FVec F S4096x2048 .f32 := Host.divf main_arg1 main_v8
  let main_v10 : FVec F S2048x4096 .f32 := (transpose S2048x4096 [1, 0] · transposes_S4096x2048_S2048x4096_1_0) main_v9
  let main_v11 : FVec F S4096x4096 .f32 := (fun l r => Host.dotGeneral dot_S4096x2048_S2048x4096_S4096x4096_1_0_0_1_n_n none l r) main_v4 main_v10
  let main_v12 : FVec F S4096x2048 .f32 := mulf main_v4 main_v9
  let main_cst_1 : FVec F S_ .f32 := constant S_ .f32 0x00000000#32
  let main_v13 : FVec F S4096 .f32 := (fun x v => Host.reduceAdd x v reducesTo_S4096x2048_S4096_d1 h_S_) main_v12 main_cst_1
  let main_v14 : FVec F S4096x1 .f32 := broadcastInDim S4096x1 ![0] bcast_S4096_S4096x1_0 main_v13
  let main_v15 : IVec S4096x4096 32 := iotaInDim S4096x4096 32 0
  let main_v16 : IVec S4096x4096 32 := iotaInDim S4096x4096 32 1
  let main_c : IVec S_ 32 := constantI S_ 32 0#32
  let main_v17 : IVec S4096x4096 32 := broadcastInDim S4096x4096 ![] bcast_S_S4096x4096 main_c
  let main_v18 : IVec S4096x4096 32 := addi main_v15 main_v17
  let main_v19 : IVec S4096x4096 1 := cmpi .eq main_v18 main_v16
  fn_part1 (F := F) main_arg2 main_v11 main_v14 main_v19
-- ==== Pre_two_per_class.lean ====
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S2048x4096 : Shape := ⟨2, ![2048, 4096]⟩
abbrev S4096x4096 : Shape := ⟨2, ![4096, 4096]⟩
abbrev S4096x16 : Shape := ⟨2, ![4096, 16]⟩
abbrev S4096x32x128 : Shape := ⟨3, ![4096, 32, 128]⟩
abbrev S4096x128x32 : Shape := ⟨3, ![4096, 128, 32]⟩
abbrev S4096x128x3 : Shape := ⟨3, ![4096, 128, 3]⟩
abbrev S4096x128x1 : Shape := ⟨3, ![4096, 128, 1]⟩
abbrev S4096x128 : Shape := ⟨2, ![4096, 128]⟩

class Facts : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  transposes_S4096x2048_S2048x4096_1_0 : S4096x2048.Transposes [1, 0] S2048x4096
  bcast_S_S4096x4096 : S_.BroadcastsInDim S4096x4096 (![] : Fin 0 → Fin S4096x4096.rank)
  sliceFits_S4096x4096_S4096x16 : S4096x4096.Slices (fun _ => 0) S4096x16
  shapeCasts_S4096x4096_S4096x32x128 : S4096x4096.ShapeCasts S4096x32x128
  transposes_S4096x32x128_S4096x128x32_0_2_1 : S4096x32x128.Transposes [0, 2, 1] S4096x128x32
  sliceFits_S4096x128x32_S4096x128x3 : S4096x128x32.Slices (fun _ => 0) S4096x128x3
  slices_S4096x128x3_S4096x128x1_0_0_2 : S4096x128x3.Slices ![0, 0, 2] S4096x128x1
  shapeCasts_S4096x128x1_S4096x128 : S4096x128x1.ShapeCasts S4096x128
  slices_S4096x16_S4096x1_0_15 : S4096x16.Slices ![0, 15] S4096x1
  bcast_S4096x1_S4096x128_0_1 : S4096x1.BroadcastsInDim S4096x128 (![0, 1] : Fin 2 → Fin S4096x128.rank)
  dot_S4096x2048_S2048x4096_S4096x4096_1_0_0_1_n_n_wf : DotDims.WF S4096x2048 S2048x4096 S4096x4096 [1] [0] [0] [1] [] []

variable [Facts]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def fn_norm {F : FTy → Type} [FloatOps F] (arg0 : FVec F S4096x2048 .f32) : FVec F S4096x1 .f32 :=
  let v0 : FVec F S4096x2048 .f32 := mulf arg0 arg0
  let cst : FVec F S_ .f32 := constant S_ .f32 0x00000000#32
  let v1 : FVec F S4096 .f32 := (fun x v => Host.reduceAdd x v reducesTo_S4096x2048_S4096_d1 h_S_) v0 cst
  let v2 : FVec F S4096x1 .f32 := broadcastInDim S4096x1 ![0] bcast_S4096_S4096x1_0 v1
  let v3 : FVec F S4096x1 .f32 := Host.sqrt v2
  v3

def fn_where {F : FTy → Type} [FloatOps F] (arg0 : IVec S4096x4096 1) (arg1 : FVec F S_ .f32) (arg2 : FVec F S4096x4096 .f32) : FVec F S4096x4096 .f32 :=
  let v0 : FVec F S4096x4096 .f32 := broadcastInDim S4096x4096 ![] bcast_S_S4096x4096 arg1
  let v1 : FVec F S4096x4096 .f32 := select arg0 v0 arg2
  v1

def fn_part1 {F : FTy → Type} [FloatOps F] (main_v17 : FVec F S4096x4096 .f32) (main_values : FVec F S4096x16 .f32) : IVec S4096x128 1 :=
  let main_v18 : FVec F S4096x32x128 .f32 := shapeCast S4096x32x128 main_v17 shapeCasts_S4096x4096_S4096x32x128
  let main_v19 : FVec F S4096x128x32 .f32 := (transpose S4096x128x32 [0, 2, 1] · transposes_S4096x32x128_S4096x128x32_0_2_1) main_v18
  let main_values_2 : FVec F S4096x128x3 .f32 := (fun x => (Host.topK S4096x128x3 2 (FloatOps.cmpfTotal .gt) x sliceFits_S4096x128x32_S4096x128x3).1) main_v19
  let main_indices_3 : IVec S4096x128x3 32 := (fun x => (Host.topK S4096x128x3 2 (FloatOps.cmpfTotal .gt) x sliceFits_S4096x128x32_S4096x128x3).2) main_v19
  let main_v20 : FVec F S4096x128x1 .f32 := (extractStridedSlice S4096x128x1 ![0, 0, 2] · slices_S4096x128x3_S4096x128x1_0_0_2) main_values_2
  let main_v21 : FVec F S4096x128 .f32 := shapeCast S4096x128 main_v20 shapeCasts_S4096x128x1_S4096x128
  let main_v22 : FVec F S4096x1 .f32 := (extractStridedSlice S4096x1 ![0, 15] · slices_S4096x16_S4096x1_0_15) main_values
  let main_v23 : FVec F S4096x128 .f32 := broadcastInDim S4096x128 ![0, 1] bcast_S4096x1_S4096x128_0_1 main_v22
  let main_v24 : IVec S4096x128 1 := cmpf .olt main_v21 main_v23
  main_v24

def fn {F : FTy → Type} [FloatOps F] (main_arg0 : FVec F S4096x2048 .f32) (main_arg1 : FVec F S4096x2048 .f32) : IVec S4096x128 1 :=
  let main_v0 : FVec F S4096x1 .f32 := fn_norm (F := F) main_arg0
  let main_cst : FVec F S_ .f32 := constant S_ .f32 0x2B8CBCCC#32
  let main_v1 : FVec F S4096x1 .f32 := broadcastInDim S4096x1 ![] bcast_S_S4096x1 main_cst
  let main_v2 : FVec F S4096x1 .f32 := maximumf main_v0 main_v1
  let main_v3 : FVec F S4096x2048 .f32 := broadcastInDim S4096x2048 ![0, 1] bcast_S4096x1_S4096x2048_0_1 main_v2
  let main_v4 : FVec F S4096x2048 .f32 := Host.divf main_arg0 main_v3
  let main_v5 : FVec F S4096x1 .f32 := fn_norm (F := F) main_arg1
  let main_cst_0 : FVec F S_ .f32 := constant S_ .f32 0x2B8CBCCC#32
  let main_v6 : FVec F S4096x1 .f32 := broadcastInDim S4096x1 ![] bcast_S_S4096x1 main_cst_0
  let main_v7 : FVec F S4096x1 .f32 := maximumf main_v5 main_v6
  let main_v8 : FVec F S4096x2048 .f32 := broadcastInDim S4096x2048 ![0, 1] bcast_S4096x1_S4096x2048_0_1 main_v7
  let main_v9 : FVec F S4096x2048 .f32 := Host.divf main_arg1 main_v8
  let main_v10 : FVec F S2048x4096 .f32 := (transpose S2048x4096 [1, 0] · transposes_S4096x2048_S2048x4096_1_0) main_v9
  let main_v11 : FVec F S4096x4096 .f32 := (fun l r => Host.dotGeneral dot_S4096x2048_S2048x4096_S4096x4096_1_0_0_1_n_n none l r) main_v4 main_v10
  let main_v12 : IVec S4096x4096 32 := iotaInDim S4096x4096 32 0
  let main_v13 : IVec S4096x4096 32 := iotaInDim S4096x4096 32 1
  let main_c : IVec S_ 32 := constantI S_ 32 0#32
  let main_v14 : IVec S4096x4096 32 := broadcastInDim S4096x4096 ![] bcast_S_S4096x4096 main_c
  let main_v15 : IVec S4096x4096 32 := addi main_v12 main_v14
  let main_v16 : IVec S4096x4096 1 := cmpi .eq main_v15 main_v13
  let main_cst_1 : FVec F S_ .f32 := constant S_ .f32 0xFF7FFFFF#32
  let main_v17 : FVec F S4096x4096 .f32 := fn_where (F := F) main_v16 main_cst_1 main_v11
  let main_values : FVec F S4096x16 .f32 := (fun x => (Host.topK S4096x16 1 (FloatOps.cmpfTotal .gt) x sliceFits_S4096x4096_S4096x16).1) main_v17
  let main_indices : IVec S4096x16 32 := (fun x => (Host.topK S4096x16 1 (FloatOps.cmpfTotal .gt) x sliceFits_S4096x4096_S4096x16).2) main_v17
  fn_part1 (F := F) main_v17 main_values
-- ==== Kernel.lean ====
abbrev S4096x2048 : Shape := ⟨2, ![4096, 2048]⟩
abbrev S2048x4096 : Shape := ⟨2, ![2048, 4096]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S4096x256 : Shape := ⟨2, ![4096, 256]⟩
abbrev S512x256 : Shape := ⟨2, ![512, 256]⟩
abbrev S512x4096 : Shape := ⟨2, ![512, 4096]⟩
abbrev S512x512 : Shape := ⟨2, ![512, 512]⟩
abbrev S512x128 : Shape := ⟨2, ![512, 128]⟩
abbrev S32x16 : Shape := ⟨2, ![32, 16]⟩
abbrev S128x256 : Shape := ⟨2, ![128, 256]⟩
abbrev S16 : Shape := ⟨1, ![16]⟩
abbrev S_ : Shape := ⟨0, ![]⟩
abbrev S1x16 : Shape := ⟨2, ![1, 16]⟩
abbrev S1 : Shape := ⟨1, ![1]⟩
abbrev S15 : Shape := ⟨1, ![15]⟩

abbrev nBuf : Table → Nat
  | .hbm => 11
  | .local .tc .vmem => 10
  | .local .scVector .vmem => 2
  | _ => 0

abbrev bufTy : (tb : Table) → Fin (nBuf tb) → BufTy
  | .hbm, ⟨0, _⟩ => ⟨S4096x2048, .f32⟩
  | .hbm, ⟨1, _⟩ => ⟨S4096x2048, .f32⟩
  | .hbm, ⟨2, _⟩ => ⟨S2048x4096, .bf16⟩
  | .hbm, ⟨3, _⟩ => ⟨S4096x256, .f32⟩
  | .hbm, ⟨4, _⟩ => ⟨S32x16, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local .tc .vmem, ⟨0, _⟩ => ⟨S512x2048, .f32⟩
  | .local .tc .vmem, ⟨1, _⟩ => ⟨S512x2048, .f32⟩
  | .local .tc .vmem, ⟨2, _⟩ => ⟨S2048x512, .bf16⟩
  | .local .tc .vmem, ⟨3, _⟩ => ⟨S2048x512, .bf16⟩
  | .local .tc .vmem, ⟨4, _⟩ => ⟨S512x2048, .f32⟩
  | .local .tc .vmem, ⟨5, _⟩ => ⟨S512x2048, .f32⟩
  | .local .tc .vmem, ⟨6, _⟩ => ⟨S2048x4096, .bf16⟩
  | .local .tc .vmem, ⟨7, _⟩ => ⟨S512x256, .f32⟩
  | .local .tc .vmem, ⟨8, _⟩ => ⟨S512x256, .f32⟩
  | .local .tc .vmem, ⟨9, _⟩ => ⟨S512x4096, .f32⟩
  | .local .scVector .vmem, ⟨0, _⟩ => ⟨S128x256, .f32⟩
  | .local .scVector .vmem, ⟨1, _⟩ => ⟨S16, .f32⟩
  | _, _ => ⟨S4096x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v1_scv : Ref sig .scVector := ⟨.hbm, 3, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_scratch0 : Ref sig .tc := ⟨.vmem, 9, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def k1_off1 (i : grid1.Coords) : Fin 2 → Nat :=
  let c0_8 : Index := 0#32
  let arg0 : BitVec 32 := BitVec.ofNat 32 (i 0).val
  let c512_i32 : BitVec 32 := 512#32
  let v18 : BitVec 32 := Scalar.muli arg0 c512_i32
  let v19 : Index := Scalar.indexCast v18
  ![0, v19.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_2_r0 : BitVec 32 := 0#32
  ![v2.toNat, 0]
@[reducible] def k2_t1_loop : Scf.Loop 32 :=
  let c0_i32 : BitVec 32 := 0#32
  let c128_i32_0 : BitVec 32 := 128#32
  let v4 : BitVec 32 := Scalar.addi c0_i32 c128_i32_0
  let c1_i32 : BitVec 32 := 1#32
  ⟨c0_i32, v4, c1_i32⟩
def k2_off2 (k2_t1 : Fin k2_t1_loop.trips) : Fin 2 → Nat :=
  let c0_i32 : BitVec 32 := 0#32
  let c1_i32 : BitVec 32 := 1#32
  let arg6 : BitVec 32 := Scf.iv c0_i32 c1_i32 k2_t1
  let v8 : Index := Scalar.indexCast arg6
  let c0_3 : Index := 0#32
  ![v8.toNat, 0]
@[reducible] def k2_t2_loop : Scf.Loop 32 :=
  let c0_i32_5 : BitVec 32 := 0#32
  let c16_i32 : BitVec 32 := 16#32
  let v11 : BitVec 32 := Scalar.addi c0_i32_5 c16_i32
  let c1_i32_6 : BitVec 32 := 1#32
  ⟨c0_i32_5, v11, c1_i32_6⟩
@[reducible] def k2_t3_loop : Scf.Loop 32 :=
  let c0_i32_9 : BitVec 32 := 0#32
  let c16_i32_10 : BitVec 32 := 16#32
  let v15 : BitVec 32 := Scalar.addi c0_i32_9 c16_i32_10
  let c1_i32_11 : BitVec 32 := 1#32
  ⟨c0_i32_9, v15, c1_i32_11⟩
def k2_off3 (k2_t1 : Fin k2_t1_loop.trips) : Fin 2 → Nat :=
  let c0_i32 : BitVec 32 := 0#32
  let c1_i32 : BitVec 32 := 1#32
  let arg6 : BitVec 32 := Scf.iv c0_i32 c1_i32 k2_t1
  let v17 : Index := Scalar.indexCast arg6
  let c16 : Index := 16#32
  ![v17.toNat, 16]
@[reducible] def k2_t4_loop : Scf.Loop 32 :=
  let c0_i32_14 : BitVec 32 := 0#32
  let c16_i32_15 : BitVec 32 := 16#32
  let v20 : BitVec 32 := Scalar.addi c0_i32_14 c16_i32_15
  let c1_i32_16 : BitVec 32 := 1#32
  ⟨c0_i32_14, v20, c1_i32_16⟩
@[reducible] def k2_t5_loop : Scf.Loop 32 :=
  let c0_i32_19 : BitVec 32 := 0#32
  let c16_i32_20 : BitVec 32 := 16#32
  let v24 : BitVec 32 := Scalar.addi c0_i32_19 c16_i32_20
  let c1_i32_21 : BitVec 32 := 1#32
  ⟨c0_i32_19, v24, c1_i32_21⟩
def k2_off4 (k2_t1 : Fin k2_t1_loop.trips) : Fin 2 → Nat :=
  let c0_i32 : BitVec 32 := 0#32
  let c1_i32 : BitVec 32 := 1#32
  let arg6 : BitVec 32 := Scf.iv c0_i32 c1_i32 k2_t1
  let v26 : Index := Scalar.indexCast arg6
  let c32 : Index := 32#32
  ![v26.toNat, 32]
@[reducible] def k2_t6_loop : Scf.Loop 32 :=
  let c0_i32_24 : BitVec 32 := 0#32
  let c16_i32_25 : BitVec 32 := 16#32
  let v29 : BitVec 32 := Scalar.addi c0_i32_24 c16_i32_25
  let c1_i32_26 : BitVec 32 := 1#32
  ⟨c0_i32_24, v29, c1_i32_26⟩
@[reducible] def k2_t7_loop : Scf.Loop 32 :=
  let c0_i32_29 : BitVec 32 := 0#32
  let c16_i32_30 : BitVec 32 := 16#32
  let v33 : BitVec 32 := Scalar.addi c0_i32_29 c16_i32_30
  let c1_i32_31 : BitVec 32 := 1#32
  ⟨c0_i32_29, v33, c1_i32_31⟩
def k2_off5 (k2_t1 : Fin k2_t1_loop.trips) : Fin 2 → Nat :=
  let c0_i32 : BitVec 32 := 0#32
  let c1_i32 : BitVec 32 := 1#32
  let arg6 : BitVec 32 := Scf.iv c0_i32 c1_i32 k2_t1
  let v35 : Index := Scalar.indexCast arg6
  let c48 : Index := 48#32
  ![v35.toNat, 48]
@[reducible] def k2_t8_loop : Scf.Loop 32 :=
  let c0_i32_34 : BitVec 32 := 0#32
  let c16_i32_35 : BitVec 32 := 16#32
  let v38 : BitVec 32 := Scalar.addi c0_i32_34 c16_i32_35
  let c1_i32_36 : BitVec 32 := 1#32
  ⟨c0_i32_34, v38, c1_i32_36⟩
@[reducible] def k2_t9_loop : Scf.Loop 32 :=
  let c0_i32_39 : BitVec 32 := 0#32
  let c16_i32_40 : BitVec 32 := 16#32
  let v42 : BitVec 32 := Scalar.addi c0_i32_39 c16_i32_40
  let c1_i32_41 : BitVec 32 := 1#32
  ⟨c0_i32_39, v42, c1_i32_41⟩
def k2_off6 (k2_t1 : Fin k2_t1_loop.trips) : Fin 2 → Nat :=
  let c0_i32 : BitVec 32 := 0#32
  let c1_i32 : BitVec 32 := 1#32
  let arg6 : BitVec 32 := Scf.iv c0_i32 c1_i32 k2_t1
  let v44 : Index := Scalar.indexCast arg6
  let c64 : Index := 64#32
  ![v44.toNat, 64]
@[reducible] def k2_t10_loop : Scf.Loop 32 :=
  let c0_i32_44 : BitVec 32 := 0#32
  let c16_i32_45 : BitVec 32 := 16#32
  let v47 : BitVec 32 := Scalar.addi c0_i32_44 c16_i32_45
  let c1_i32_46 : BitVec 32 := 1#32
  ⟨c0_i32_44, v47, c1_i32_46⟩
@[reducible] def k2_t11_loop : Scf.Loop 32 :=
  let c0_i32_49 : BitVec 32 := 0#32
  let c16_i32_50 : BitVec 32 := 16#32
  let v51 : BitVec 32 := Scalar.addi c0_i32_49 c16_i32_50
  let c1_i32_51 : BitVec 32 := 1#32
  ⟨c0_i32_49, v51, c1_i32_51⟩
def k2_off7 (k2_t1 : Fin k2_t1_loop.trips) : Fin 2 → Nat :=
  let c0_i32 : BitVec 32 := 0#32
  let c1_i32 : BitVec 32 := 1#32
  let arg6 : BitVec 32 := Scf.iv c0_i32 c1_i32 k2_t1
  let v53 : Index := Scalar.indexCast arg6
  let c80 : Index := 80#32
  ![v53.toNat, 80]
@[reducible] def k2_t12_loop : Scf.Loop 32 :=
  let c0_i32_54 : BitVec 32 := 0#32
  let c16_i32_55 : BitVec 32 := 16#32
  let v56 : BitVec 32 := Scalar.addi c0_i32_54 c16_i32_55
  let c1_i32_56 : BitVec 32 := 1#32
  ⟨c0_i32_54, v56, c1_i32_56⟩
@[reducible] def k2_t13_loop : Scf.Loop 32 :=
  let c0_i32_59 : BitVec 32 := 0#32
  let c16_i32_60 : BitVec 32 := 16#32
  let v60 : BitVec 32 := Scalar.addi c0_i32_59 c16_i32_60
  let c1_i32_61 : BitVec 32 := 1#32
  ⟨c0_i32_59, v60, c1_i32_61⟩
def k2_off8 (k2_t1 : Fin k2_t1_loop.trips) : Fin 2 → Nat :=
  let c0_i32 : BitVec 32 := 0#32
  let c1_i32 : BitVec 32 := 1#32
  let arg6 : BitVec 32 := Scf.iv c0_i32 c1_i32 k2_t1
  let v62 : Index := Scalar.indexCast arg6
  let c96 : Index := 96#32
  ![v62.toNat, 96]
@[reducible] def k2_t14_loop : Scf.Loop 32 :=
  let c0_i32_64 : BitVec 32 := 0#32
  let c16_i32_65 : BitVec 32 := 16#32
  let v65 : BitVec 32 := Scalar.addi c0_i32_64 c16_i32_65
  let c1_i32_66 : BitVec 32 := 1#32
  ⟨c0_i32_64, v65, c1_i32_66⟩
@[reducible] def k2_t15_loop : Scf.Loop 32 :=
  let c0_i32_69 : BitVec 32 := 0#32
  let c16_i32_70 : BitVec 32 := 16#32
  let v69 : BitVec 32 := Scalar.addi c0_i32_69 c16_i32_70
  let c1_i32_71 : BitVec 32 := 1#32
  ⟨c0_i32_69, v69, c1_i32_71⟩
def k2_off9 (k2_t1 : Fin k2_t1_loop.trips) : Fin 2 → Nat :=
  let c0_i32 : BitVec 32 := 0#32
  let c1_i32 : BitVec 32 := 1#32
  let arg6 : BitVec 32 := Scf.iv c0_i32 c1_i32 k2_t1
  let v71 : Index := Scalar.indexCast arg6
  let c112 : Index := 112#32
  ![v71.toNat, 112]
@[reducible] def k2_t16_loop : Scf.Loop 32 :=
  let c0_i32_74 : BitVec 32 := 0#32
  let c16_i32_75 : BitVec 32 := 16#32
  let v74 : BitVec 32 := Scalar.addi c0_i32_74 c16_i32_75
  let c1_i32_76 : BitVec 32 := 1#32
  ⟨c0_i32_74, v74, c1_i32_76⟩
@[reducible] def k2_t17_loop : Scf.Loop 32 :=
  let c0_i32_79 : BitVec 32 := 0#32
  let c16_i32_80 : BitVec 32 := 16#32
  let v78 : BitVec 32 := Scalar.addi c0_i32_79 c16_i32_80
  let c1_i32_81 : BitVec 32 := 1#32
  ⟨c0_i32_79, v78, c1_i32_81⟩
def k2_off10 (k2_t1 : Fin k2_t1_loop.trips) : Fin 2 → Nat :=
  let c0_i32 : BitVec 32 := 0#32
  let c1_i32 : BitVec 32 := 1#32
  let arg6 : BitVec 32 := Scf.iv c0_i32 c1_i32 k2_t1
  let v80 : Index := Scalar.indexCast arg6
  let c128 : Index := 128#32
  ![v80.toNat, 128]
@[reducible] def k2_t18_loop : Scf.Loop 32 :=
  let c0_i32_84 : BitVec 32 := 0#32
  let c16_i32_85 : BitVec 32 := 16#32
  let v83 : BitVec 32 := Scalar.addi c0_i32_84 c16_i32_85
  let c1_i32_86 : BitVec 32 := 1#32
  ⟨c0_i32_84, v83, c1_i32_86⟩
@[reducible] def k2_t19_loop : Scf.Loop 32 :=
  let c0_i32_89 : BitVec 32 := 0#32
  let c16_i32_90 : BitVec 32 := 16#32
  let v87 : BitVec 32 := Scalar.addi c0_i32_89 c16_i32_90
  let c1_i32_91 : BitVec 32 := 1#32
  ⟨c0_i32_89, v87, c1_i32_91⟩
def k2_off11 (k2_t1 : Fin k2_t1_loop.trips) : Fin 2 → Nat :=
  let c0_i32 : BitVec 32 := 0#32
  let c1_i32 : BitVec 32 := 1#32
  let arg6 : BitVec 32 := Scf.iv c0_i32 c1_i32 k2_t1
  let v89 : Index := Scalar.indexCast arg6
  let c144 : Index := 144#32
  ![v89.toNat, 144]
@[reducible] def k2_t20_loop : Scf.Loop 32 :=
  let c0_i32_94 : BitVec 32 := 0#32
  let c16_i32_95 : BitVec 32 := 16#32
  let v92 : BitVec 32 := Scalar.addi c0_i32_94 c16_i32_95
  let c1_i32_96 : BitVec 32 := 1#32
  ⟨c0_i32_94, v92, c1_i32_96⟩
@[reducible] def k2_t21_loop : Scf.Loop 32 :=
  let c0_i32_99 : BitVec 32 := 0#32
  let c16_i32_100 : BitVec 32 := 16#32
  let v96 : BitVec 32 := Scalar.addi c0_i32_99 c16_i32_100
  let c1_i32_101 : BitVec 32 := 1#32
  ⟨c0_i32_99, v96, c1_i32_101⟩
def k2_off12 (k2_t1 : Fin k2_t1_loop.trips) : Fin 2 → Nat :=
  let c0_i32 : BitVec 32 := 0#32
  let c1_i32 : BitVec 32 := 1#32
  let arg6 : BitVec 32 := Scf.iv c0_i32 c1_i32 k2_t1
  let v98 : Index := Scalar.indexCast arg6
  let c160 : Index := 160#32
  ![v98.toNat, 160]
@[reducible] def k2_t22_loop : Scf.Loop 32 :=
  let c0_i32_104 : BitVec 32 := 0#32
  let c16_i32_105 : BitVec 32 := 16#32
  let v101 : BitVec 32 := Scalar.addi c0_i32_104 c16_i32_105
  let c1_i32_106 : BitVec 32 := 1#32
  ⟨c0_i32_104, v101, c1_i32_106⟩
@[reducible] def k2_t23_loop : Scf.Loop 32 :=
  let c0_i32_109 : BitVec 32 := 0#32
  let c16_i32_110 : BitVec 32 := 16#32
  let v105 : BitVec 32 := Scalar.addi c0_i32_109 c16_i32_110
  let c1_i32_111 : BitVec 32 := 1#32
  ⟨c0_i32_109, v105, c1_i32_111⟩
def k2_off13 (k2_t1 : Fin k2_t1_loop.trips) : Fin 2 → Nat :=
  let c0_i32 : BitVec 32 := 0#32
  let c1_i32 : BitVec 32 := 1#32
  let arg6 : BitVec 32 := Scf.iv c0_i32 c1_i32 k2_t1
  let v107 : Index := Scalar.indexCast arg6
  let c176 : Index := 176#32
  ![v107.toNat, 176]
@[reducible] def k2_t24_loop : Scf.Loop 32 :=
  let c0_i32_114 : BitVec 32 := 0#32
  let c16_i32_115 : BitVec 32 := 16#32
  let v110 : BitVec 32 := Scalar.addi c0_i32_114 c16_i32_115
  let c1_i32_116 : BitVec 32 := 1#32
  ⟨c0_i32_114, v110, c1_i32_116⟩
@[reducible] def k2_t25_loop : Scf.Loop 32 :=
  let c0_i32_119 : BitVec 32 := 0#32
  let c16_i32_120 : BitVec 32 := 16#32
  let v114 : BitVec 32 := Scalar.addi c0_i32_119 c16_i32_120
  let c1_i32_121 : BitVec 32 := 1#32
  ⟨c0_i32_119, v114, c1_i32_121⟩
def k2_off14 (k2_t1 : Fin k2_t1_loop.trips) : Fin 2 → Nat :=
  let c0_i32 : BitVec 32 := 0#32
  let c1_i32 : BitVec 32 := 1#32
  let arg6 : BitVec 32 := Scf.iv c0_i32 c1_i32 k2_t1
  let v116 : Index := Scalar.indexCast arg6
  let c192 : Index := 192#32
  ![v116.toNat, 192]
@[reducible] def k2_t26_loop : Scf.Loop 32 :=
  let c0_i32_124 : BitVec 32 := 0#32
  let c16_i32_125 : BitVec 32 := 16#32
  let v119 : BitVec 32 := Scalar.addi c0_i32_124 c16_i32_125
  let c1_i32_126 : BitVec 32 := 1#32
  ⟨c0_i32_124, v119, c1_i32_126⟩
@[reducible] def k2_t27_loop : Scf.Loop 32 :=
  let c0_i32_129 : BitVec 32 := 0#32
  let c16_i32_130 : BitVec 32 := 16#32
  let v123 : BitVec 32 := Scalar.addi c0_i32_129 c16_i32_130
  let c1_i32_131 : BitVec 32 := 1#32
  ⟨c0_i32_129, v123, c1_i32_131⟩
def k2_off15 (k2_t1 : Fin k2_t1_loop.trips) : Fin 2 → Nat :=
  let c0_i32 : BitVec 32 := 0#32
  let c1_i32 : BitVec 32 := 1#32
  let arg6 : BitVec 32 := Scf.iv c0_i32 c1_i32 k2_t1
  let v125 : Index := Scalar.indexCast arg6
  let c208 : Index := 208#32
  ![v125.toNat, 208]
@[reducible] def k2_t28_loop : Scf.Loop 32 :=
  let c0_i32_134 : BitVec 32 := 0#32
  let c16_i32_135 : BitVec 32 := 16#32
  let v128 : BitVec 32 := Scalar.addi c0_i32_134 c16_i32_135
  let c1_i32_136 : BitVec 32 := 1#32
  ⟨c0_i32_134, v128, c1_i32_136⟩
@[reducible] def k2_t29_loop : Scf.Loop 32 :=
  let c0_i32_139 : BitVec 32 := 0#32
  let c16_i32_140 : BitVec 32 := 16#32
  let v132 : BitVec 32 := Scalar.addi c0_i32_139 c16_i32_140
  let c1_i32_141 : BitVec 32 := 1#32
  ⟨c0_i32_139, v132, c1_i32_141⟩
def k2_off16 (k2_t1 : Fin k2_t1_loop.trips) : Fin 2 → Nat :=
  let c0_i32 : BitVec 32 := 0#32
  let c1_i32 : BitVec 32 := 1#32
  let arg6 : BitVec 32 := Scf.iv c0_i32 c1_i32 k2_t1
  let v134 : Index := Scalar.indexCast arg6
  let c224 : Index := 224#32
  ![v134.toNat, 224]
@[reducible] def k2_t30_loop : Scf.Loop 32 :=
  let c0_i32_144 : BitVec 32 := 0#32
  let c16_i32_145 : BitVec 32 := 16#32
  let v137 : BitVec 32 := Scalar.addi c0_i32_144 c16_i32_145
  let c1_i32_146 : BitVec 32 := 1#32
  ⟨c0_i32_144, v137, c1_i32_146⟩
@[reducible] def k2_t31_loop : Scf.Loop 32 :=
  let c0_i32_149 : BitVec 32 := 0#32
  let c16_i32_150 : BitVec 32 := 16#32
  let v141 : BitVec 32 := Scalar.addi c0_i32_149 c16_i32_150
  let c1_i32_151 : BitVec 32 := 1#32
  ⟨c0_i32_149, v141, c1_i32_151⟩
def k2_off17 (k2_t1 : Fin k2_t1_loop.trips) : Fin 2 → Nat :=
  let c0_i32 : BitVec 32 := 0#32
  let c1_i32 : BitVec 32 := 1#32
  let arg6 : BitVec 32 := Scf.iv c0_i32 c1_i32 k2_t1
  let v143 : Index := Scalar.indexCast arg6
  let c240 : Index := 240#32
  ![v143.toNat, 240]
@[reducible] def k2_t32_loop : Scf.Loop 32 :=
  let c0_i32_154 : BitVec 32 := 0#32
  let c16_i32_155 : BitVec 32 := 16#32
  let v146 : BitVec 32 := Scalar.addi c0_i32_154 c16_i32_155
  let c1_i32_156 : BitVec 32 := 1#32
  ⟨c0_i32_154, v146, c1_i32_156⟩
@[reducible] def k2_t33_loop : Scf.Loop 32 :=
  let c0_i32_159 : BitVec 32 := 0#32
  let c16_i32_160 : BitVec 32 := 16#32
  let v150 : BitVec 32 := Scalar.addi c0_i32_159 c16_i32_160
  let c1_i32_161 : BitVec 32 := 1#32
  ⟨c0_i32_159, v150, c1_i32_161⟩
def k2_off18 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S2048x4096 : Shape := ⟨2, ![2048, 4096]⟩
abbrev S4096x4096 : Shape := ⟨2, ![4096, 4096]⟩
abbrev S4096x16 : Shape := ⟨2, ![4096, 16]⟩
abbrev S65536 : Shape := ⟨1, ![65536]⟩

abbrev nBuf : Space → Nat
  | .hbm => 67
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S2048x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096x16, .f32⟩
  | .hbm, ⟨34, _⟩ => ⟨S65536, .f32⟩
  | .hbm, ⟨35, _⟩ => ⟨S4096x4096, .i32⟩
  | .hbm, ⟨36, _⟩ => ⟨S4096x4096, .i32⟩
  | .hbm, ⟨37, _⟩ => ⟨S_, .i32⟩
  | .hbm, ⟨38, _⟩ => ⟨S4096x4096, .i32⟩
  | .hbm, ⟨39, _⟩ => ⟨S4096x4096, .i32⟩
  | .hbm, ⟨40, _⟩ => ⟨S4096x4096, .i1⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x16, .f32⟩
  | .hbm, ⟨46, _⟩ => ⟨S4096x16, .i32⟩
  | .hbm, ⟨47, _⟩ => ⟨S4096x16, .f32⟩
  | .hbm, ⟨48, _⟩ => ⟨S65536, .f32⟩
  | .hbm, ⟨49, _⟩ => ⟨S_, .f32⟩
  | .hbm, ⟨50, _⟩ => ⟨S65536, .f32⟩
  | .hbm, ⟨51, _⟩ => ⟨S65536, .f32⟩
  | .hbm, ⟨52, _⟩ => ⟨S_, .f32⟩
  | .hbm, ⟨53, _⟩ => ⟨S65536, .f32⟩
  | .hbm, ⟨54, _⟩ => ⟨S65536, .f32⟩
  | .hbm, ⟨55, _⟩ => ⟨S65536, .f32⟩
  | .hbm, ⟨56, _⟩ => ⟨S65536, .f32⟩
  | .hbm, ⟨57, _⟩ => ⟨S_, .f32⟩
  | .hbm, ⟨58, _⟩ => ⟨S65536, .f32⟩
  | .hbm, ⟨59, _⟩ => ⟨S65536, .f32⟩
  | .hbm, ⟨60, _⟩ => ⟨S_, .f32⟩
  | .hbm, ⟨61, _⟩ => ⟨S65536, .f32⟩
  | .hbm, ⟨62, _⟩ => ⟨S65536, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_call2_v0 : Ref sig .tc := ⟨.hbm, 42, rfl⟩
abbrev main_v25 : Ref sig .tc := ⟨.hbm, 43, rfl⟩
abbrev main_v26 : Ref sig .tc := ⟨.hbm, 44, rfl⟩
abbrev main_values : Ref sig .tc := ⟨.hbm, 45, rfl⟩
abbrev main_indices : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_cst_10 : Ref sig .tc := ⟨.hbm, 65, rfl⟩
abbrev main_v40 : Ref sig .tc := ⟨.hbm, 66, rfl⟩

abbrev nD : Nat := 1
abbrev τ : Topo := Topo.v7x

variable {F : FTy → Type} [FloatOps F]
-- ==== Proof.Common.lean ====
/-
  What every module of this proof shares: the program as the launch theorem sees it, the resource algebra, and the
  names of the arrays. The program is one TensorCore thread that runs two pipelined kernels and starts one SparseCore
  call, and the SparseCores' threads that answer it.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Nearest

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the two pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## The arrays -/

/-- The two arguments, the normalised transposed targets, the candidates, the partial sums and the result, as
    locations of device `d`. -/
abbrev predLoc (d : Dev nD) : Loc nD τ sig := (SparseCore.T d).loc main_arg0
abbrev targetLoc (d : Dev nD) : Loc nD τ sig := (SparseCore.T d).loc main_arg1
abbrev normLoc (d : Dev nD) : Loc nD τ sig := (SparseCore.T d).loc main_v0
abbrev candLoc (d : Dev nD) : Loc nD τ sig := (SparseCore.T d).loc main_v1
abbrev partLoc (d : Dev nD) : Loc nD τ sig := (SparseCore.T d).loc main_v2
abbrev outLoc (d : Dev nD) : Loc nD τ sig := (SparseCore.T d).loc main_v5

end Cert.Proof.Nearest

end
-- ==== Proof.Row.lean ====
/-
  One row of the SparseCore kernel: the sixteen nearest of the row's 256 candidates, kept in a register. Its value as
  a function of the tile's block of candidates, and the run of the loop's region at that value.
-/
module

public import proofs.«01_k».proof.Proof.Common

@[expose] public section

noncomputable section

namespace Cert.Proof.Nearest

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The row as a function -/

/-- A register in descending order: its lanes inserted one after another into a register of `-∞`. -/
def sortDesc (x : FVec F S16 .f32) : FVec F S16 .f32 :=
  (Scf.fold (fun (_ : Fin k2_t2_loop.trips) (p : FVec F S16 .f32 × FVec F S16 .f32) => (k2_pay21 p.1 p.2, k2_pay22 p.2)) (k2_pay20 (F := F), x)).1

/-- A register in ascending order: its lanes inserted one after another into a register of `+∞`. -/
def sortAsc (x : FVec F S16 .f32) : FVec F S16 .f32 :=
  (Scf.fold (fun (_ : Fin k2_t3_loop.trips) (p : FVec F S16 .f32 × FVec F S16 .f32) => (k2_pay25 p.1 p.2, k2_pay26 p.2)) (k2_pay24 (F := F), x)).1

/-- The register before the first chunk: every lane far. -/
def farReg : FVec F S16 .f32 := broadcast S16 (Scalar.ofBits .f32 0x7F61B1E6#32 : F .f32)

/-- One chunk of sixteen candidates taken into the register. -/
def takeChunk (run x : FVec F S16 .f32) : FVec F S16 .f32 := sortAsc (minimumf run (sortDesc x))

/-- Sixteen consecutive candidates of a row, from the offsets given. -/
def chunkAt (X : Vec F S128x256 .f32) (o : Fin 2 → ℕ) (h : ∀ a, o a + S1x16.size a ≤ S128x256.size a) : FVec F S16 .f32 :=
  shapeCast S16 (fun k => X ((Rect.unit (s := S128x256) o S1x16.size h).emb k)) shapeCasts_S1x16_S16

/-- The sixteen chunks of row `t`. -/
def rowChunks (X : Vec F S128x256 .f32) (t : Fin k2_t1_loop.trips) : List (FVec F S16 .f32) :=
  [chunkAt X (k2_off2 t) (k2_off2_inb t), chunkAt X (k2_off3 t) (k2_off3_inb t), chunkAt X (k2_off4 t) (k2_off4_inb t),
    chunkAt X (k2_off5 t) (k2_off5_inb t), chunkAt X (k2_off6 t) (k2_off6_inb t), chunkAt X (k2_off7 t) (k2_off7_inb t),
    chunkAt X (k2_off8 t) (k2_off8_inb t), chunkAt X (k2_off9 t) (k2_off9_inb t), chunkAt X (k2_off10 t) (k2_off10_inb t),
    chunkAt X (k2_off11 t) (k2_off11_inb t), chunkAt X (k2_off12 t) (k2_off12_inb t), chunkAt X (k2_off13 t) (k2_off13_inb t),
    chunkAt X (k2_off14 t) (k2_off14_inb t), chunkAt X (k2_off15 t) (k2_off15_inb t), chunkAt X (k2_off16 t) (k2_off16_inb t),
    chunkAt X (k2_off17 t) (k2_off17_inb t)]

/-- The row's register after all its chunks. -/
def rowReg (X : Vec F S128x256 .f32) (t : Fin k2_t1_loop.trips) : FVec F S16 .f32 := (rowChunks X t).foldl takeChunk farReg

/-- The accumulator after row `t`. -/
def rowStep (X : Vec F S128x256 .f32) (t : Fin k2_t1_loop.trips) (acc : FVec F S16 .f32) : FVec F S16 .f32 := addf acc (rowReg X t)

/-! ## Its run -/

variable (d : Dev nD) (L : grid2.Coords)

abbrev cV (L : grid2.Coords) : Fin τ.nSC := (L 0).castLE hcore2
abbrev jV (L : grid2.Coords) : Fin τ.nSub := (L 1).castLE hsub2

-- the kernel's memrefs as the body table passes them
local notation "cM" => (Memref.whole Cert.KernelIdeal.main_v1_scv : Memref Cert.KernelIdeal.sig Kind.scVector Space.hbm Cert.KernelIdeal.S4096x256 EltTy.f32)
local notation "pM" => (Memref.whole Cert.KernelIdeal.main_v2_scv : Memref Cert.KernelIdeal.sig Kind.scVector Space.hbm Cert.KernelIdeal.S32x16 EltTy.f32)
local notation "sX" => (Memref.whole Cert.KernelIdeal.cc2_scratch0 : Memref Cert.KernelIdeal.sig Kind.scVector Space.vmem Cert.KernelIdeal.S128x256 EltTy.f32)
local notation "sA" => (Memref.whole Cert.KernelIdeal.cc2_scratch1 : Memref Cert.KernelIdeal.sig Kind.scVector Space.vmem Cert.KernelIdeal.S16 EltTy.f32)

/-- The region of the row loop at trip `t`: from the tile's block held whole, the accumulator goes to `rowStep`. -/
theorem row_run (t : Fin k2_t1_loop.trips) (acc : FVec F S16 .f32) (X : Buf (Elt F) ((V d (cV L) (jV L)).loc cc2_scratch0)) :
    ((sX).view.loc (V d (cV L) (jV L)) ↦{fullShare} X : sProp 𝕄)
      ⊢ wp frame (wpE (defs₀ (F := F)) 𝒱₀ (V d (cV L) (jV L)) none) Set.univ
          (k2_t1_body L cM (Memref.isWhole_whole _) pM (Memref.isWhole_whole _) sX (Memref.isWhole_whole _) sA (Memref.isWhole_whole _) cc2_scoped0 cc2_scoped1 t acc)
          fun r => iprop(⌜r = rowStep X t acc⌝ ∗ ((sX).view.loc (V d (cV L) (jV L)) ↦{fullShare} X)) := by
  unfold k2_t1_body
  iintro HX
  sl_exec
  sl_step
  isplitr
  · ipureintro
    rfl
  iexact HX

end Cert.Proof.Nearest

end
-- ==== Proof.Tile.lean ====
/-
  The SparseCore kernel's task on one vector subcore: its block of 128 rows of candidates fetched, the rows' registers
  summed, the sum written out to the task's row of the partial sums. The task leaves in that row the values `partials`.
-/
module

public import proofs.«01_k».proof.Proof.Row
public import Idealize.ShloMosaic.Lib.VecWindow

@[expose] public section

noncomputable section

namespace Cert.Proof.Nearest

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

-- the kernel's memrefs as the body table passes them
local notation "cM" => (Memref.whole Cert.KernelIdeal.main_v1_scv : Memref Cert.KernelIdeal.sig Kind.scVector Space.hbm Cert.KernelIdeal.S4096x256 EltTy.f32)
local notation "pM" => (Memref.whole Cert.KernelIdeal.main_v2_scv : Memref Cert.KernelIdeal.sig Kind.scVector Space.hbm Cert.KernelIdeal.S32x16 EltTy.f32)
local notation "sX" => (Memref.whole Cert.KernelIdeal.cc2_scratch0 : Memref Cert.KernelIdeal.sig Kind.scVector Space.vmem Cert.KernelIdeal.S128x256 EltTy.f32)
local notation "sA" => (Memref.whole Cert.KernelIdeal.cc2_scratch1 : Memref Cert.KernelIdeal.sig Kind.scVector Space.vmem Cert.KernelIdeal.S16 EltTy.f32)

/-! ## The blocks and rows of the 32 tasks -/

theorem hdivC : 32 ∣ S4096x256.size 0 := ⟨128, rfl⟩
theorem hdivP : 32 ∣ S32x16.size 0 := ⟨1, rfl⟩
/-- Block `w` of 128 rows of the candidates, and row `w` of the partial sums: task `w`'s. -/
abbrev blk (w : Fin 32) : Rect S4096x256 := Rect.part (s := S4096x256) (a₀ := 0) hdivC w
abbrev blkSet (w : Fin 32) : Finset S4096x256.Idx := ((cM).view.slice (blk w)).set
abbrev prow (w : Fin 32) : Rect S32x16 := Rect.part (s := S32x16) (a₀ := 0) hdivP w
abbrev prowSet (w : Fin 32) : Finset S32x16.Idx := ((pM).view.slice (prow w)).set

theorem bound_zero : grid2.bound 0 = 2 := rfl
theorem bound_one : grid2.bound 1 = 16 := rfl

/-- The task's number: twice its vector subcore plus its SparseCore. -/
def wid (L : grid2.Coords) : Fin 32 := ⟨2 * (L 1).val + (L 0).val, by
  have h0 : (L 0).val < 2 := (L 0).isLt
  have h1 : (L 1).val < 16 := (L 1).isLt
  omega⟩

/-- The coordinates of task number `w`. -/
def coordsOf (w : Fin 32) : grid2.Coords :=
  fun | 0 => (⟨w.val % 2, Nat.mod_lt _ (by decide)⟩ : Fin 2) | 1 => (⟨w.val / 2, by omega⟩ : Fin 16) | ⟨_ + 2, h⟩ => absurd h (Nat.not_lt.2 (Nat.le_add_left _ _))

theorem coordsOf_wid (L : grid2.Coords) : coordsOf (wid L) = L := by
  have h0 : (L 0).val < 2 := (L 0).isLt
  funext a
  match a with
  | 0 => exact Fin.ext (show (2 * (L 1).val + (L 0).val) % 2 = (L 0).val by omega)
  | 1 => exact Fin.ext (show (2 * (L 1).val + (L 0).val) / 2 = (L 1).val by omega)

/-- The block and the row the task addresses, as the body spells them. -/
abbrev cBlkK (L : grid2.Coords) : Memref sig .scVector .hbm S128x256 .f32 :=
  (cM).slice (Rect.unit (s := S4096x256) (k2_off1 L) S128x256.size (k2_off1_inb L)) (fun _ => rfl)
abbrev prowK (L : grid2.Coords) : Rect S32x16 := Rect.unit (s := S32x16) (k2_off18 L) S1x16.size (k2_off18_inb L)
abbrev pRowK (L : grid2.Coords) : Memref sig .scVector .hbm S16 .f32 := ((pM).slice (prowK L) (fun _ => rfl)).squeeze S16 squeezes_S1x16_S16

theorem blkK_eq (L : grid2.Coords) : Rect.unit (s := S4096x256) (k2_off1 L) S128x256.size (k2_off1_inb L) = blk (wid L) := by
  unfold blk Rect.part Rect.block
  congr 1 <;> funext a
  · rw [k2_off1_eq]
    match a with
    | 0 => simp [Shape.partIx, Shape.partSize, wid]; omega
    | 1 => simp [Shape.partIx, Shape.partSize]
  · match a with
    | 0 => simp [Shape.partSize]
    | 1 => simp [Shape.partSize]
theorem prowK_eq (L : grid2.Coords) : prowK L = prow (wid L) := by
  unfold prowK prow Rect.part Rect.block
  congr 1 <;> funext a
  · rw [k2_off18_eq]
    match a with
    | 0 => simp [Shape.partIx, Shape.partSize, wid]
    | 1 => simp [Shape.partIx, Shape.partSize]
  · match a with
    | 0 => simp [Shape.partSize]
    | 1 => simp [Shape.partSize]

theorem set_cBlkK (L : grid2.Coords) : (cBlkK L).view.set = blkSet (wid L) := by
  show ((cM).view.slice _).set = _
  rw [blkK_eq L]
theorem set_pRowK (L : grid2.Coords) : (pRowK L).view.set = prowSet (wid L) := by
  show (((pM).view.slice (prowK L)).reshape S16 squeezes_S1x16_S16.numel_eq).set = ((pM).view.slice (prow (wid L))).set
  rw [View.set_reshape]
  exact prowK_eq L ▸ rfl

theorem pts_cBlkK (d : Dev nD) (L : grid2.Coords) (f : Buf (Elt F) (candLoc d)) :
    ((cBlkK L).view.loc (V d (cV L) (jV L)) ↦[(cBlkK L).view.set]{fullShare} f : sProp 𝕄) = candLoc d ↦[blkSet (wid L)]{fullShare} f := by
  rw [set_cBlkK]
theorem pts_pRowK (d : Dev nD) (L : grid2.Coords) (f : Buf (Elt F) (partLoc d)) :
    ((pRowK L).view.loc (V d (cV L) (jV L)) ↦[(pRowK L).view.set]{fullShare} f : sProp 𝕄) = partLoc d ↦[prowSet (wid L)]{fullShare} f := by
  rw [set_pRowK]
theorem pts_sX (d : Dev nD) (L : grid2.Coords) (f : Buf (Elt F) ((V d (cV L) (jV L)).loc cc2_scratch0)) :
    ((sX).view.loc (V d (cV L) (jV L)) ↦{fullShare} f : sProp 𝕄) = (V d (cV L) (jV L)).loc cc2_scratch0 ↦{fullShare} f := rfl
theorem pts_sA (d : Dev nD) (L : grid2.Coords) (f : Buf (Elt F) ((V d (cV L) (jV L)).loc cc2_scratch1)) :
    ((sA).view.loc (V d (cV L) (jV L)) ↦{fullShare} f : sProp 𝕄) = (V d (cV L) (jV L)).loc cc2_scratch1 ↦{fullShare} f := rfl

/-- A task's block of candidates and its row of partial sums, held at contents. -/
abbrev blkPts (d : Dev nD) (w : Fin 32) (f : Buf (Elt F) (candLoc d)) : sProp 𝕄 := candLoc d ↦[blkSet w]{fullShare} f
abbrev prowPts (d : Dev nD) (w : Fin 32) (f : Buf (Elt F) (partLoc d)) : sProp 𝕄 := partLoc d ↦[prowSet w]{fullShare} f

/-! ## What the task computes -/

section Values
variable [FloatOps F]

/-- The accumulator after the first `n` rows of block `X`. -/
def accAt (X : Vec F S128x256 .f32) : ℕ → FVec F S16 .f32
  | 0 => k2_pay1
  | n + 1 => if h : n < k2_t1_loop.trips then rowStep X ⟨n, h⟩ (accAt X n) else accAt X n

/-- The block of candidates the task fetches. -/
def tileIn (C : S4096x256.Idx → Elt F .f32) (L : grid2.Coords) : Vec F S128x256 .f32 := fun k => C ((cBlkK L).view.emb k)

/-- The sum the task leaves. -/
def tileSum (C : S4096x256.Idx → Elt F .f32) (L : grid2.Coords) : FVec F S16 .f32 := accAt (tileIn C L) k2_t1_loop.trips

/-- The partial sums of all the tasks, from the candidates. -/
def partials (C : S4096x256.Idx → Elt F .f32) : S32x16.Idx → Elt F .f32 := fun j => tileSum C (coordsOf (j 0)) (fun | 0 => j 1)

end Values

variable [FloatOps F]

/-! ## The task's run -/

variable (d : Dev nD) (L : grid2.Coords)

/-- The two scoped DMA cells the body names: the fetch's and the write-out's. -/
abbrev cAcell (d : Dev nD) (c : Fin τ.nSC) (i : Fin τ.nSub) : GSem nD τ sig := (V d c i, .dma cc2_scoped0.sem)
abbrev cBcell (d : Dev nD) (c : Fin τ.nSC) (i : Fin τ.nSub) : GSem nD τ sig := (V d c i, .dma cc2_scoped1.sem)

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L))) fun g => semVal g 0) := by
  unfold SparseCore.Cfg.ownSems0
  rw [SparseCore.bigSep_erase' ((mem_ownCells (g := cAcell d (cV L) (jV L))).mpr ⟨rfl, by
      show (SemLoc.dma cc2_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc2_scoped1.sem : SemLoc sig).isScoped .scVector = true; decide⟩⟩)]

omit [FloatOps F] in
/-- The subcore's own buffers are the two scratches, each at some contents, together with the rest. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

variable (C : Buf (Elt F) (candLoc d))

/-- The row loop's invariant: the accumulator at its value, the block held. -/
def rowInv (X : Buf (Elt F) ((V d (cV L) (jV L)).loc cc2_scratch0)) (n : ℕ) (acc : FVec F S16 .f32) : sProp 𝕄 :=
  iprop(⌜acc = accAt X n⌝ ∗ ((sX).view.loc (V d (cV L) (jV L)) ↦{fullShare} X))

omit [FloatOps F] in
/-- The index of the partial sums that the task's row names by lane `y`: row `wid L`, column `y`. -/
theorem emb_pRowK (y : S16.Idx) : (pRowK L).view.emb y = (fun | 0 => wid L | 1 => y 0 | ⟨_ + 2, h⟩ => absurd h (Nat.not_lt.2 (Nat.le_add_left _ _)) : S32x16.Idx) := by
  have h : (pRowK L).view.emb y = (prowK L).emb (Fin.cons ⟨0, Nat.one_pos⟩ y) :=
    congrArg (prowK L).emb (Shape.reshapeEquiv_cons_one (d := ![16]) squeezes_S1x16_S16.numel_eq y)
  rw [h]
  funext a
  have e0 : k2_off18 L 0 = (wid L).val := by rw [k2_off18_eq]; simp [wid]
  have e1 : k2_off18 L 1 = 0 := by rw [k2_off18_eq]; simp
  match a with
  | ⟨0, _⟩ => exact Fin.ext (show k2_off18 L 0 + 1 * 0 = (wid L).val by omega)
  | ⟨1, _⟩ => exact Fin.ext (show k2_off18 L 1 + 1 * (y 0).val = (y 0).val by omega)

/-- What the write-out leaves on the task's row. -/
theorem row_written (f₀ : Buf (Elt F) (partLoc d)) (w : S16.Idx → Elt F .f32) (hw : w = tileSum C L) :
    ∀ j ∈ (pRowK L).view.set, (pRowK L).view.writes (Elt F) f₀ [⟨Rect.whole S16, w⟩] j = partials C j := by
  intro j hj
  obtain ⟨y, -, rfl⟩ := Finset.mem_map.mp hj
  have h1 : (pRowK L).view.read (Elt F) ((pRowK L).view.writes (Elt F) f₀ [⟨Rect.whole S16, w⟩]) y = w y :=
    View.read_writes_cons_hit _ _ (Rect.whole S16) w [] y y (Rect.emb_whole_apply S16 y)
  refine (show _ = _ from h1).trans ?_
  rw [hw, emb_pRowK]
  show tileSum C L y = tileSum C (coordsOf (wid L)) _
  rw [coordsOf_wid]
  congr 1
  funext a
  match a with
  | 0 => rfl

theorem tile_body (hF : (K (F := F)).Facts) (O : CellTallies nD τ sig (HIx 1)) (W : Waits sig (HIx 1)) (hO : ∀ g, O g none = 0)
    (f₀ : Buf (Elt F) (partLoc d)) :
    iprop(levAts (K (F := F)).L (K (F := F)).lev ∗ emp
        ∗ (blkPts d (wid L) C ∗ prowPts d (wid L) f₀)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__sc_topk_kernel L cM (Memref.isWhole_whole _) pM (Memref.isWhole_whole _) sX (Memref.isWhole_whole _) sA (Memref.isWhole_whole _) cc2_scoped0 cc2_scoped1)
          fun _ => iprop((blkPts d (wid L) C ∗ prowPts d (wid L) (partials C))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [cc2__sc_topk_kernel_eq_skeleton]; unfold cc2__sc_topk_kernel_skel
  rw [(K (F := F)).scopedBufs_V hF d (cV L) (jV L), SparseCore.Cfg.scopedSems0_V (Val := Elt F) d (cV L) (jV L), ownSems0_V, ownBufs_V]
  iintro ⟨#Hlv, -, ⟨Hc, Hp⟩, ⟨⟨%fx, Hx⟩, ⟨%fa, Ha⟩, Hbufs⟩, ⟨HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hc' := (Entails.of_eq (pts_cBlkK (F := F) d L _).symm) $$ Hc
  ihave Hp' := (Entails.of_eq (pts_pRowK (F := F) d L _).symm) $$ Hp
  ihave Hx' := (Entails.of_eq (pts_sX (F := F) d L _).symm) $$ Hx
  ihave Ha' := (Entails.of_eq (pts_sA (F := F) d L _).symm) $$ Ha
  sl_exec (disch := exact View.amount_pos _ _ (show 0 < S128x256.numel by decide))
  have hX : View.write (Elt F) (sX).view fx (tile_body.sl.dma0 d L C) Finset.univ = tileIn C L :=
    (View.write_whole_univ _ _ _).trans rfl
  ihave Hx'' := (Entails.of_eq (congrArg (fun X => ((sX).view.loc (V d (cV L) (jV L)) ↦{fullShare} X : sProp 𝕄)) hX)) $$ Hx'
  sl_for (rowInv d L (tileIn C L)) $$ [Hx'']
  case region =>
    intro k acc
    unfold rowInv
    iintro ⟨%hacc, HX⟩
    have hs : rowStep (tileIn C L) k acc = accAt (tileIn C L) (k.val + 1) := by
      rw [hacc, accAt, dif_pos k.isLt]
    rw [← hs]
    iapply (row_run d L k acc (tileIn C L)) $$ HX
  · unfold rowInv
    isplitr
    · ipureintro; rfl
    iexact Hx''
  iintro %acc HI
  unfold rowInv
  icases HI with ⟨%hacc, Hx⟩
  sl_exec (disch := exact View.amount_pos _ _ (show 0 < S16.numel by decide))
  sl_step
  isplitl [Hc' Hp']
  · isplitl [Hc']; · iapply (Entails.of_eq (pts_cBlkK (F := F) d L _)); iexact Hc'
    iapply (Entails.of_eq (pts_pRowK (F := F) d L _))
    iapply (Entails.of_eq (pointsTo_congr (row_written (F := F) d L C f₀ (tile_body.sl.dma2 d L fa acc)
      ((View.read_writes_full _ _ _ _ _).trans hacc)))) $$ Hp'
  isplitl [Hx Ha' Hbufs]
  · isplitl [Hx]; · iexists _; iexact Hx
    isplitl [Ha']; · iexists _; iexact Ha'
    iexact Hbufs
  isplitl [HsemA HsemB Hsems]
  · isplitl [HsemA]; · iexact HsemA
    isplitl [HsemB]; · iexact HsemB
    iexact Hsems
  iexists _; isplitr
  swap; · iexact HO
  ipureintro; intro p _
  rcases p.2 with _ | q
  · exact .inr (.inl rfl)
  · exact .inr (.inr (congrArg some (Subsingleton.elim q 0)))

end Cert.Proof.Nearest

end
-- ==== Proof.Tasks.lean ====
/-
  The SparseCore call as the launch theorem sees it: what the TensorCore hands the two SparseCores, what each hands its
  sixteen tasks, and that the whole arrays are those pieces.
-/
module

public import proofs.«01_k».proof.Proof.Tile
public import Idealize.ShloMosaic.Lib.SparseCore.Quiescent

@[expose] public section

noncomputable section

namespace Cert.Proof.Nearest

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ
local notation "cM" => (Memref.whole Cert.KernelIdeal.main_v1_scv : Memref Cert.KernelIdeal.sig Kind.scVector Space.hbm Cert.KernelIdeal.S4096x256 EltTy.f32)
local notation "pM" => (Memref.whole Cert.KernelIdeal.main_v2_scv : Memref Cert.KernelIdeal.sig Kind.scVector Space.hbm Cert.KernelIdeal.S32x16 EltTy.f32)
local notation "sX" => (Memref.whole Cert.KernelIdeal.cc2_scratch0 : Memref Cert.KernelIdeal.sig Kind.scVector Space.vmem Cert.KernelIdeal.S128x256 EltTy.f32)
local notation "sA" => (Memref.whole Cert.KernelIdeal.cc2_scratch1 : Memref Cert.KernelIdeal.sig Kind.scVector Space.vmem Cert.KernelIdeal.S16 EltTy.f32)

/-! ## The tasks' coordinates -/

def coordsV (c : Fin (grid2.bound 0)) (s : Fin (grid2.bound 1)) : grid2.Coords :=
  fun | 0 => c | 1 => s | ⟨_ + 2, h⟩ => absurd h (Nat.not_lt.2 (Nat.le_add_left _ _))

/-- The number of task `s` of SparseCore `c`. -/
def taskNo (c : Fin 2) (s : Fin 16) : Fin 32 := wid (coordsV c s)

/-- Every number below 32 is exactly one task's. -/
def taskEquiv : Fin 2 × Fin 16 ≃ Fin 32 where
  toFun x := taskNo x.1 x.2
  invFun w := (⟨w.val % 2, Nat.mod_lt _ (by decide)⟩, ⟨w.val / 2, by omega⟩)
  left_inv x := by
    obtain ⟨⟨c, hc⟩, ⟨s, hs⟩⟩ := x
    refine Prod.ext (Fin.ext ?_) (Fin.ext ?_)
    · show (2 * s + c) % 2 = c; omega
    · show (2 * s + c) / 2 = s; omega
  right_inv w := Fin.ext (by show 2 * (w.val / 2) + w.val % 2 = w.val; omega)

/-! ## What the handshakes carry -/

variable (C : Dev nD → S4096x256.Idx → Elt F .f32) (f₀ : (d : Dev nD) → Buf (Elt F) (partLoc d))

/-- A task's block of candidates and its row of the partial sums, before and after it runs. -/
abbrev before (d : Dev nD) (w : Fin 32) : sProp 𝕄 := iprop(blkPts d w (C d) ∗ prowPts d w (f₀ d))
abbrev after (d : Dev nD) (w : Fin 32) : sProp 𝕄 := iprop(blkPts d w (C d) ∗ prowPts d w (partials (C d)))

def P : (K (F := F)).Pay (nD := nD) (Val := Elt F) (Name := ℕ) (U := UU) where
  st := fun q d c => match q with | 0 => bigSep Finset.univ fun i : Fin 16 => before C f₀ d (taskNo (Fin.cast nCore_zero c) i)
  dn := fun q d c => match q with | 0 => bigSep Finset.univ fun i : Fin 16 => after C d (taskNo (Fin.cast nCore_zero c) i)
  go := fun q d c i => match q with | 0 => before C f₀ d (taskNo (Fin.cast nCore_zero c) (Fin.cast nSub_zero i))
  td := fun q d c i => match q with | 0 => after C d (taskNo (Fin.cast nCore_zero c) (Fin.cast nSub_zero i))
  x := fun _ _ => iprop(emp)

instance P_storable : (P (F := F) C f₀).IsStorable where
  st q d c := match q with
    | 0 => (inferInstance : BI.Storable (upEmb : UEmb _ 𝕄) (bigSep Finset.univ fun i : Fin 16 => before C f₀ d (taskNo (Fin.cast nCore_zero c) i)))
  dn q d c := match q with
    | 0 => (inferInstance : BI.Storable (upEmb : UEmb _ 𝕄) (bigSep Finset.univ fun i : Fin 16 => after C d (taskNo (Fin.cast nCore_zero c) i)))
  go q d c i := match q with
    | 0 => (inferInstance : BI.Storable (upEmb : UEmb _ 𝕄) (before C f₀ d (taskNo (Fin.cast nCore_zero c) (Fin.cast nSub_zero i))))
  td q d c i := match q with
    | 0 => (inferInstance : BI.Storable (upEmb : UEmb _ 𝕄) (after C d (taskNo (Fin.cast nCore_zero c) (Fin.cast nSub_zero i))))

/-! ## A task's obligation -/

theorem defs₀_vector (c : Fin τ.nSC) (s : Fin τ.nSub) :
    defs₀ (F := F) (.scVector c s) 2 ()
      = SparseCore.onTile hcore2 hsub2 (fun c s => cc2__sc_topk_kernel (coordsV c s) cM (Memref.isWhole_whole _) pM (Memref.isWhole_whole _)
          sX (Memref.isWhole_whole _) sA (Memref.isWhole_whole _) cc2_scoped0 cc2_scoped1) ⟨⟩ c s := rfl

theorem tileObl (hF : (K (F := F)).Facts) : (K (F := F)).TileObl (D (F := F)) 𝒱 (P C f₀) v₀ 0 := by
  intro d c i O W hO _ _
  simp only [show (P C f₀).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (C d) hF O W hO (f₀ d)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore hands its tasks what it was handed, and hands back what they hand it. -/
theorem vecSplit : (K (F := F)).VecSplit' (P C f₀) 0 := by
  intro d c
  show (bigSep Finset.univ fun i : Fin 16 => before C f₀ d (taskNo (Fin.cast nCore_zero c) i)) ⊢ |={Set.univ}=> iprop(
      (bigSep Finset.univ fun i : Fin ((K (F := F)).nSub 0) => before C f₀ d (taskNo (Fin.cast nCore_zero c) (Fin.cast nSub_zero i)))
      ∗ ((bigSep Finset.univ fun i : Fin ((K (F := F)).nSub 0) => after C d (taskNo (Fin.cast nCore_zero c) (Fin.cast nSub_zero i)))
          -∗ bigSep Finset.univ fun i : Fin 16 => after C d (taskNo (Fin.cast nCore_zero c) i)))
  rw [bigSep_tasks (F := F) (fun i => before C f₀ d (taskNo (Fin.cast nCore_zero c) i)),
    bigSep_tasks (F := F) (fun i => after C d (taskNo (Fin.cast nCore_zero c) i))]
  iintro H; imodintro
  isplitl [H]; · iexact H
  iintro H; iexact H

/-! ## The arrays are their pieces -/

theorem blkSet_eq (w : Fin 32) : blkSet w = (blk w).set := by
  show ((View.whole (main_v1_scv : Ref sig .scVector)).slice (blk w)).set = _
  rw [View.set_slice]; exact Finset.map_refl
theorem prowSet_eq (w : Fin 32) : prowSet w = (prow w).set := by
  show ((View.whole (main_v2_scv : Ref sig .scVector)).slice (prow w)).set = _
  rw [View.set_slice]; exact Finset.map_refl
theorem blks_disjoint : ∀ i ∈ (Finset.univ : Finset (Fin 32)), ∀ j ∈ (Finset.univ : Finset (Fin 32)), i ≠ j → Disjoint (blkSet i) (blkSet j) :=
  fun i _ j _ h => by rw [blkSet_eq, blkSet_eq]; exact Rect.part_disjoint hdivC h
theorem prows_disjoint : ∀ i ∈ (Finset.univ : Finset (Fin 32)), ∀ j ∈ (Finset.univ : Finset (Fin 32)), i ≠ j → Disjoint (prowSet i) (prowSet j) :=
  fun i _ j _ h => by rw [prowSet_eq, prowSet_eq]; exact Rect.part_disjoint hdivP h
theorem blks_cover : (Finset.univ : Finset (Fin 32)).biUnion blkSet = Finset.univ :=
  (Finset.biUnion_congr rfl fun i _ => blkSet_eq i).trans (Rect.biUnion_part hdivC)
theorem prows_cover : (Finset.univ : Finset (Fin 32)).biUnion prowSet = Finset.univ :=
  (Finset.biUnion_congr rfl fun i _ => prowSet_eq i).trans (Rect.biUnion_part hdivP)

theorem cand_pieces (d : Dev nD) (f : Buf (Elt F) (candLoc d)) :
    (candLoc d ↦{fullShare} f : sProp 𝕄) = bigSep Finset.univ fun w : Fin 32 => blkPts d w f := by
  rw [← pointsTo_biUnion Finset.univ (ℓ := candLoc d) blkSet blks_disjoint, blks_cover]; try rfl
theorem part_pieces (d : Dev nD) (f : Buf (Elt F) (partLoc d)) :
    (partLoc d ↦{fullShare} f : sProp 𝕄) = bigSep Finset.univ fun w : Fin 32 => prowPts d w f := by
  rw [← pointsTo_biUnion Finset.univ (ℓ := partLoc d) prowSet prows_disjoint, prows_cover]; try rfl

/-- The 32 pieces, SparseCore by SparseCore. -/
theorem by_core (Φ : Fin 32 → sProp 𝕄) :
    (bigSep Finset.univ fun c : Fin ((K (F := F)).nCore 0) => bigSep Finset.univ fun i : Fin 16 => Φ (taskNo (Fin.cast nCore_zero c) i)) = bigSep Finset.univ Φ := by
  rw [bigSep_univ_equiv taskEquiv (Φ := Φ), bigSep_univ_prod]
  exact bigSep_congr fun _ _ => rfl

theorem st_eq (d : Dev nD) :
    (bigSep Finset.univ fun c : Fin ((K (F := F)).nCore 0) => (P C f₀).st 0 d c)
      = (iprop((candLoc d ↦{fullShare} C d) ∗ (partLoc d ↦{fullShare} f₀ d)) : sProp 𝕄) := by
  rw [cand_pieces, part_pieces, ← bigSep_sep']
  exact by_core (fun w => before C f₀ d w)
theorem dn_eq (d : Dev nD) :
    (bigSep Finset.univ fun c : Fin ((K (F := F)).nCore 0) => (P C f₀).dn 0 d c)
      = (iprop((candLoc d ↦{fullShare} C d) ∗ (partLoc d ↦{fullShare} partials (C d))) : sProp 𝕄) := by
  rw [cand_pieces, part_pieces, ← bigSep_sep']
  exact by_core (fun w => after C d w)

end Cert.Proof.Nearest

end
-- ==== Proof.Bodies.lean ====
/-
  The two TensorCore kernels' bodies at one grid point, with values: what each leaves in its output block, as a
  function of the blocks it is given.
-/
module

public import proofs.«01_k».proof.Proof.Common
public import proofs.«01_k».proof.Proof.Gen.KernelIdeal.Skeleton
public import proofs.«01_k».proof.Proof.Gen.KernelIdeal.Points
public import proofs.«01_k».proof.Proof.Gen.KernelIdeal.Launch
public import Idealize.ShloMosaic.Lib.VecWindow
public import Idealize.ShloMosaic.Lib.Tactic

@[expose] public section

noncomputable section

namespace Cert.Proof.Nearest

open Cert.KernelIdeal Cert.KernelIdeal.Gen

open Idealize.ShloMosaic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Memref `M` of the TensorCore of device `c` owned at the values `X`. -/
abbrev tcOwns (c : Dev nD) {sp : Space} {s : Shape} {e : EltTy} (M : Memref sig .tc sp s e) (X : s.Idx → Elt F e) : sProp 𝕄 :=
  owns (T (τ := τ) c) M fullShare X

/-- The first kernel at a grid point: its output block becomes the transposed, normalised, rounded block. -/
theorem prep_body (c : Dev nD) (i : grid0.Coords) (M0 : Memref sig .tc .vmem S512x2048 .f32) (h0 : M0.IsWhole)
    (M1 : Memref sig .tc .vmem S2048x512 .bf16) (h1 : M1.IsWhole) (X0 : Vec F S512x2048 .f32) (X1 : Vec F S2048x512 .bf16) :
    iprop(tcOwns c M0 X0 ∗ tcOwns c M1 X1)
      ⊢ wp frame (wpE (defs₀ (F := F)) 𝒱₀ (T c) none) Set.univ (cc0__prep_kernel i M0 h0 M1 h1)
          fun _ => iprop(tcOwns c M0 X0 ∗ tcOwns c M1 (k0_pay1 X0)) := by
  unfold tcOwns owns
  iintro ⟨⟨%f0, %hf0, H0⟩, ⟨%f1, -, H1⟩⟩
  sl_exec!
  sl_step
  isplitl [H0]
  · iexists f0; isplitr; (· ipureintro; exact hf0); iexact H0
  iexists _; isplitr; swap; (· iexact H1)
  ipureintro
  unfold prep_body.sl.H1_1
  rw [View.read_writes_full, View.readAt_full, hf0]

/-! ## The second kernel's values -/

/-- The square of the block's similarities that holds the diagonal, and the similarities with the diagonal put far away. -/
def square (i : grid1.Coords) (S : Vec F S512x4096 .f32) : Vec F S512x512 .f32 := VecWindow.window S (k1_off1 i) S512x512.size (k1_off1_inb i)
def hideDiag (i : grid1.Coords) (S : Vec F S512x4096 .f32) : Vec F S512x4096 .f32 := VecWindow.put S (k1_off1 i) S512x512.size (k1_pay5 (square i S))

theorem colChunk_inb (j : Fin 32) : ∀ a : Fin 2, (![0, 128 * j.val] : Fin 2 → ℕ) a + S512x128.size a ≤ S512x4096.size a := by
  intro a
  match a with
  | 0 => exact Nat.le_refl 512
  | 1 => exact (show 128 * j.val + 128 ≤ 4096 by omega)

/-- Columns `128 j` to `128 j + 127`. -/
def colChunk (S : Vec F S512x4096 .f32) (j : Fin 32) : Vec F S512x128 .f32 := VecWindow.window S ![0, 128 * j.val] S512x128.size (colChunk_inb j)

/-- The largest and the second largest of each class so far, with one more value of each class. -/
def insertTwo (p : FVec F S512x128 .f32 × FVec F S512x128 .f32) (x : FVec F S512x128 .f32) : FVec F S512x128 .f32 × FVec F S512x128 .f32 :=
  (maximumf p.1 x, maximumf p.2 (minimumf p.1 x))

/-- The two largest of each class. -/
def topTwo (S : Vec F S512x4096 .f32) : FVec F S512x128 .f32 × FVec F S512x128 .f32 :=
  (List.finRange 32).foldl (fun p j => insertTwo p (colChunk S j)) (k1_pay6, k1_pay6)

/-- The candidates of the rows of a block: the diagonal similarity less the two largest others of each class. -/
def candOf (d : FVec F S512x1 .f32) (p : FVec F S512x128 .f32 × FVec F S512x128 .f32) : FVec F S512x256 .f32 :=
  subf (broadcastTo S512x256 d broadcasts_S512x1_S512x256)
    (concatenate S512x256 1 [⟨S512x128, p.1⟩, ⟨S512x128, p.2⟩] concatenates_S512x128_S512x128_S512x256_d1)

/-- The second kernel's output block at a grid point, from the block of predictions and all the normalised targets. -/
def candBlock (i : grid1.Coords) (X0 : Vec F S512x2048 .f32) (X1 : Vec F S2048x4096 .bf16) : FVec F S512x256 .f32 :=
  candOf (k1_pay4 (square i (k1_pay2 X0 X1))) (topTwo (hideDiag i (k1_pay2 X0 X1)))

/-- The second kernel at a grid point: its output block becomes the rows' candidates. -/
theorem main_body (c : Dev nD) (i : grid1.Coords) (M0 : Memref sig .tc .vmem S512x2048 .f32) (h0 : M0.IsWhole)
    (M1 : Memref sig .tc .vmem S2048x4096 .bf16) (h1 : M1.IsWhole)
    (M2 : Memref sig .tc .vmem S512x256 .f32) (h2 : M2.IsWhole)
    (M3 : Memref sig .tc .vmem S512x4096 .f32) (h3 : M3.IsWhole)
    (X0 : Vec F S512x2048 .f32) (X1 : Vec F S2048x4096 .bf16) (X2 : Vec F S512x256 .f32) (X3 : Vec F S512x4096 .f32) :
    iprop(tcOwns c M0 X0 ∗ tcOwns c M1 X1 ∗ tcOwns c M2 X2 ∗ tcOwns c M3 X3)
      ⊢ wp frame (wpE (defs₀ (F := F)) 𝒱₀ (T c) none) Set.univ (cc1__main_kernel i M0 h0 M1 h1 M2 h2 M3 h3)
          fun _ => iprop(tcOwns c M0 X0 ∗ tcOwns c M1 X1 ∗ tcOwns c M2 (candBlock i X0 X1) ∗ ∃ X, tcOwns c M3 X) := by
  unfold tcOwns owns
  iintro ⟨⟨%f0, %hf0, H0⟩, ⟨%f1, %hf1, H1⟩, ⟨%f2, -, H2⟩, ⟨%f3, -, H3⟩⟩
  sl_exec!
  sl_step
  isplitl [H0]; · iexists f0; isplitr; (· ipureintro; exact hf0); iexact H0
  isplitl [H1]; · iexists f1; isplitr; (· ipureintro; exact hf1); iexact H1
  isplitl [H2]
  · iexists _; isplitr; swap; (· iexact H2)
    ipureintro
    have hS : M3.view.read (Elt F) (M3.view.writes (Elt F) M3.view.junk (main_body.sl.H3_1 c M0 M1 f0 f1)) = k1_pay2 X0 X1 := by
      unfold main_body.sl.H3_1
      rw [View.read_writes_full, View.readAt_full, View.readAt_full, hf0, hf1]
    have hS' : M3.view.read (Elt F) (M3.view.writes (Elt F) M3.view.junk (main_body.sl.H3_2 c i M0 M1 M3 f0 f1)) = hideDiag i (k1_pay2 X0 X1) := by
      unfold main_body.sl.H3_2
      rw [View.read_writes_cons_put _ _ _ _ _ rfl, hS, View.readAt_unit _ _ _ rfl (k1_off1_inb i), hS]
      rfl
    unfold main_body.sl.H2_1
    rw [View.read_writes_full]
    refine (show _ = candOf (k1_pay4 (square i (M3.view.read (Elt F) (M3.view.writes (Elt F) M3.view.junk (main_body.sl.H3_1 c M0 M1 f0 f1)))))
      (topTwo (M3.view.read (Elt F) (M3.view.writes (Elt F) M3.view.junk (main_body.sl.H3_2 c i M0 M1 M3 f0 f1)))) from rfl).trans ?_
    rw [hS, hS']
    rfl
  iexists _, _; isplitr; swap; (· iexact H3)
  ipureintro; rfl

end Cert.Proof.Nearest

end
-- ==== Proof.PrepRegion.lean ====
/-
  The first pipelined kernel over its grid of eight points: from the targets it leaves the normalised, rounded and
  transposed targets, block of 512 rows by block.
-/
module

public import proofs.«01_k».proof.Proof.Bodies
public import Idealize.ShloMosaic.Lib.Pipeline.RegionsLoop
public import Idealize.ShloMosaic.Lib.Pipeline.ValueKit

@[expose] public section

noncomputable section

namespace Cert.Proof.Nearest

open Cert.KernelIdeal Cert.KernelIdeal.Gen

open Idealize.ShloMosaic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## What both pipelines share -/

/-- The contents of every buffer of the TensorCore's thread. -/
abbrev Vals (F : FTy → Type) : Type := (c : Dev nD) → (b : Ref sig .tc) → Buf (Elt F) ((SparseCore.T (τ := τ) c : Thread nD τ).loc b)

/-- What the TensorCore owes throughout: the start of the SparseCore call to come. -/
abbrev owed (c : Dev nD) : CellTallies nD τ sig (HIx 1) := (K (F := F)).Otc c 0

/-- The waits it may have recorded before the call. -/
abbrev early (c : Dev nD) : Set (SemLoc sig × HIx 1) := {p | (K (F := F)).lev (T c, p.1) p.2 ≤ 8 * SparseCore.Cfg.Blocks.fst 1 1 0}

theorem owed_none (c : Dev nD) (g : GSem nD τ sig) : owed (F := F) c g none = 0 :=
  Nat.eq_zero_of_not_pos fun h => by
    have := (K (F := F)).lev_of_Otc_pos h
    rw [SparseCore.Cfg.lev_none] at this
    omega

/-- The debt, with the waits recorded so far. -/
abbrev debt (c : Dev nD) : sProp 𝕄 := iprop(∃ W, ⌜(K (F := F)).WBelow (T c) W (8 * SparseCore.Cfg.Blocks.fst 1 1 0)⌝ ∗ owes (T c) (owed (F := F) c) W)

/-- Proof data of a pipeline that is not the one at hand. -/
def otherDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

variable (V : Vals F)
variable (adm : (p : Fin 2) → (pcfgs (F := F) p).Adm)

/-! ## The first pipeline's data -/

/-- The block of targets at a grid point. -/
abbrev targetBlock (c : Dev nD) (t : Fin cfg0.N) : Vec F S512x2048 .f32 := ((cfg0.win 0).blk t).view.read (Elt F) (V c main_arg1)

abbrev prepΦ (c : Dev nD) : sProp 𝕄 := Pipeline.scopedRest (Ix := HIx 1) (Name := ℕ) (U := UU) (Lvl := ℕ) (Val := Elt F) spec0 c

def prepDat (c : Dev nD) : Dat τ (Elt F) (HIx 1) ℕ UU ℕ cfg0 c where
  A w := V c (Pipeline.arrRef spec0 w)
  after w t := match w with
    | ⟨0, _⟩ => targetBlock V c t
    | ⟨1, _⟩ => k0_pay1 (targetBlock V c t)
  Φ _ := prepΦ c
  q _ := fullShare
  owed _ := owed (F := F) c
  recorded _ := early (F := F) c

def prepDats : (p : Fin 2) → (c : Dev nD) → Dat τ (Elt F) (HIx 1) ℕ UU ℕ (Pipeline.pin (pcfgs (F := F)) adm p) c
  | ⟨0, _⟩ => fun c => prepDat V c
  | ⟨1, _⟩ => fun c => otherDat c

theorem prep_before (c : Dev nD) (t : Fin cfg0.N) (d : (cfg0.win 0).block.Idx → Elt F (cfg0.win 0).elt) : (prepDat V c).before 0 t d = targetBlock V c t := by
  unfold Dat.before
  rw [if_pos (fetch0_0 t)]
  rfl

theorem prep_obligation (c : Dev nD) : BodyObligation (prepDat V c) (defs₀ (F := F)) 𝒱₀ (none : HIx 1) Set.univ := fun t => by
  rw [bigSep_W0, bigSep_W0]
  rw [show (prepDat V c).Φ t.castSucc = prepΦ c from rfl, show (prepDat V c).Φ t.succ = prepΦ c from rfl,
    show (prepDat V c).owesAt none t.succ = (prepDat V c).owesAt none t.castSucc from rfl]
  iintro ⟨HΦ, Howes, ⟨%d0, H0⟩, ⟨%d1, H1⟩⟩
  rw [prep_before]
  iapply (wp_wand_r frame (wpE (defs₀ (F := F)) 𝒱₀ (T c) none) Set.univ)
  isplitl [H0 H1]
  · iapply (prep_body c (grid0.coords t) (win0_0.stage (cfg0.slots t 0)) (hstage0_0 ((cfg0.slots t 0).cast nbuf0_0)) (win0_1.stage (cfg0.slots t 1))
      (hstage0_1 ((cfg0.slots t 1).cast nbuf0_1)) (targetBlock V c t) ((prepDat V c).before 1 t d1))
    isplitl [H0]; · iexact H0
    iexact H1
  iintro %_ ⟨H0, H1⟩
  isplitl [HΦ]; · iexact HΦ
  isplitl [Howes]; · iexact Howes
  isplitl [H0]; · iexact H0
  iexact H1

/-- The array the pipeline leaves. -/
def prepOut (c : Dev nD) : Buf (Elt F) ((SparseCore.T (τ := τ) c : Thread nD τ).loc main_v0) := (prepDat V c).arrAt 1 cfg0.N

/-! ## The pipeline over the thread's buffers -/

variable (Vp : Vals F)

set_option backward.isDefEq.respectTransparency.types false in
def prepSeg (hVp_out : ∀ c, Vp c main_v0 = prepOut V c) (hVp_ne : ∀ c (b : Ref sig .tc), b ≠ main_v0 → Vp c b = V c b) :
    Pipeline.RegionSeg (pcfgs (F := F)) adm (prepDats V adm) (none : HIx 1) defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (prep_obligation V c).loose
  hwaits c := Pipeline.cellsWaits_intro _ _ _ _ _ fun w s t => (K (F := F)).mayWait_none _ (owed_none c)
  pre c := iprop(unscopedBufs c (V c) ∗ debt (F := F) c)
  post c := iprop(unscopedBufs c (Vp c) ∗ debt (F := F) c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (prepDats V adm) (launch0).win (launch0).arr_whole c
      ((prepDats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (prepDats V adm 0 c).Φ 0 = prepΦ c from rfl]
    iintro ⟨-, -, Hr⟩; iexact Hr
  hout c := by
    rw [Pipeline.ownSems0_none, show (prepDats V adm 0 c).Φ (Fin.last _) = prepΦ c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (prepDats V adm) ((prepDats V adm 0 c).share_full fun _ => rfl) (V c) (Vp c) ((prepDats V adm 0 c).arrAt · cfg0.N)
      (fun w => by
        fin_cases w
        · exact ((prepDats V adm 0 c).arrAt_in 0 rfl _).trans (hVp_ne c main_arg1 (by decide)).symm
        · exact (hVp_out c).symm)
      (fun b hb => hVp_ne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; (· iexact HO)
    ipureintro
    intro p hp
    rcases hW hp with h | ⟨w, s, rfl⟩
    · exact h
    · exact Nat.zero_le _

/-! ## The array it leaves, written out -/

/-- Rows `512 b` to `512 b + 511` of an array. -/
def rowsBlock (Y : Vec F S4096x2048 .f32) (b : Fin 8) : Vec F S512x2048 .f32 := fun k => Y fun
  | 0 => ⟨512 * b.val + (k 0).val, by have h : (k 0).val < 512 := (k 0).isLt; have := b.isLt; show _ < 4096; omega⟩
  | 1 => k 1
  | ⟨_ + 2, h⟩ => absurd h (Nat.not_lt.2 (Nat.le_add_left _ _))

/-- The normalised, rounded and transposed targets: column `j` is made from the block that holds row `j`. -/
def normTr (Y : Vec F S4096x2048 .f32) : Vec F S2048x4096 .bf16 := fun j =>
  k0_pay1 (rowsBlock Y ⟨(j 1).val / 512, by have h : (j 1).val < 4096 := (j 1).isLt; omega⟩) fun
    | 0 => j 0
    | 1 => ⟨(j 1).val % 512, Nat.mod_lt _ (by show 0 < 512; omega)⟩
    | ⟨_ + 2, h⟩ => absurd h (Nat.not_lt.2 (Nat.le_add_left _ _))

theorem normTr_at (Y : Vec F S4096x2048 .f32) (b : Fin 8) (y : S2048x512.Idx) (j : S2048x4096.Idx) (h0 : (j 0).val = (y 0).val)
    (h1 : (j 1).val = 512 * b.val + (y 1).val) : normTr Y j = k0_pay1 (rowsBlock Y b) y := by
  have hy : (y 1).val < 512 := (y 1).isLt
  unfold normTr
  rw [show (⟨(j 1).val / 512, by have h : (j 1).val < 4096 := (j 1).isLt; omega⟩ : Fin 8) = b from Fin.ext (by show _ / 512 = _; omega)]
  congr 1
  funext a
  match a with
  | ⟨0, _⟩ => exact Fin.ext h0
  | ⟨1, _⟩ => exact Fin.ext (by show _ % 512 = (y 1).val; omega)

theorem targetBlock_eq (c : Dev nD) (t : Fin cfg0.N) : targetBlock V c t = rowsBlock (V c main_arg1) (t.cast N_0) := by
  have e : ∀ t : Fin cfg0.N, win0_0.index t = ![t.val, 0] := (by decide +kernel : ∀ t : Fin grid0.N, _)
  funext k
  show V c main_arg1 ((win0_0.blk t).view.emb k) = V c main_arg1 _
  congr 1
  funext a
  match a with
  | ⟨0, _⟩ => refine Fin.ext ?_; blk_simp [e]; show _ = 512 * t.val + _; simp; omega
  | ⟨1, _⟩ => refine Fin.ext ?_; blk_simp [e]; show _ = (k 1).val; simp

theorem prepOut_eq (c : Dev nD) : prepOut V c = normTr (V c main_arg1) := by
  have e : ∀ t : Fin cfg0.N, win0_1.index t = ![0, t.val] := (by decide +kernel : ∀ t : Fin grid0.N, _)
  refine (prepDat V c).arrAt_eq_of_covers 1 (normTr (V c main_arg1)) (by decide +kernel) fun t hf y => ?_
  blk_simp
  rw [normTr_at (V c main_arg1) (t.cast N_0) y _ (by blk_simp [e]) (by blk_simp [e]; show _ = 512 * t.val + _; simp; omega), ← targetBlock_eq]
  rfl

end Cert.Proof.Nearest

end
-- ==== Proof.MainRegion.lean ====
/-
  The second pipelined kernel over its grid of eight points: from the predictions and the normalised targets it leaves,
  of each row, the candidate distances.
-/
module

public import proofs.«01_k».proof.Proof.PrepRegion
public import Idealize.ShloMosaic.Lib.Pipeline.FrameBody

@[expose] public section

noncomputable section

namespace Cert.Proof.Nearest

open Cert.KernelIdeal Cert.KernelIdeal.Gen

open Idealize.ShloMosaic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : Vals F)
variable (adm : (p : Fin 2) → (pcfgs (F := F) p).Adm)

/-! ## The second pipeline's data -/

/-- The block of predictions at a grid point, and the normalised targets, whole at every point. -/
abbrev predBlock (c : Dev nD) (t : Fin cfg1.N) : Vec F S512x2048 .f32 := ((cfg1.win 0).blk t).view.read (Elt F) (V c main_arg0)
abbrev normBlock (c : Dev nD) (t : Fin cfg1.N) : Vec F S2048x4096 .bf16 := ((cfg1.win 1).blk t).view.read (Elt F) (V c main_v0)

abbrev mainΦ (c : Dev nD) : sProp 𝕄 := Pipeline.scopedRest (Ix := HIx 1) (Name := ℕ) (U := UU) (Lvl := ℕ) (Val := Elt F) spec1 c

def mainDat (c : Dev nD) : Dat τ (Elt F) (HIx 1) ℕ UU ℕ cfg1 c where
  A w := V c (Pipeline.arrRef spec1 w)
  after w t := match w with
    | ⟨0, _⟩ => predBlock V c t
    | ⟨1, _⟩ => normBlock V c t
    | ⟨2, _⟩ => candBlock (grid1.coords t) (predBlock V c t) (normBlock V c t)
  Φ _ := mainΦ c
  q _ := fullShare
  owed _ := owed (F := F) c
  recorded _ := early (F := F) c

def mainDats : (p : Fin 2) → (c : Dev nD) → Dat τ (Elt F) (HIx 1) ℕ UU ℕ (Pipeline.pin (pcfgs (F := F)) adm p) c
  | ⟨0, _⟩ => fun c => otherDat c
  | ⟨1, _⟩ => fun c => mainDat V c

theorem main_before0 (c : Dev nD) (t : Fin cfg1.N) (d : (cfg1.win 0).block.Idx → Elt F (cfg1.win 0).elt) : (mainDat V c).before 0 t d = predBlock V c t := by
  unfold Dat.before
  rw [if_pos (fetch1_0 t)]
  rfl

/-- The second window is fetched once; the body leaves it in place. -/
theorem main_before1 (c : Dev nD) (t : Fin cfg1.N) (d : (cfg1.win 1).block.Idx → Elt F (cfg1.win 1).elt) : (mainDat V c).before 1 t d = normBlock V c t :=
  ((mainDat V c).before_in_eq_fetched 1 rfl (fun _ => rfl) (fun _ _ _ => rfl) (fun _ => rfl) t d).trans rfl

/-- The scratch buffer, owned whole. -/
theorem scratch_owns (c : Dev nD) (X : Vec F S512x4096 .f32) :
    tcOwns c (Memref.whole cc1_scratch0) X = ((SparseCore.T (τ := τ) c : Thread nD τ).loc cc1_scratch0 ↦{fullShare} X : sProp 𝕄) :=
  owns_whole (T c) cc1_scratch0 fullShare X

theorem main_obligation (c : Dev nD) : BodyObligation (mainDat V c) (defs₀ (F := F)) 𝒱₀ (none : HIx 1) Set.univ := fun t => by
  rw [bigSep_W1, bigSep_W1]
  rw [show (mainDat V c).Φ t.castSucc = mainΦ c from rfl, show (mainDat V c).Φ t.succ = mainΦ c from rfl,
    show (mainDat V c).owesAt none t.succ = (mainDat V c).owesAt none t.castSucc from rfl]
  unfold mainΦ
  rw [scopedRest1_eq]
  iintro ⟨⟨Ha, Hb, Hc, Hd, ⟨%s0, Hs⟩⟩, Howes, ⟨%d0, H0⟩, ⟨%d1, H1⟩, ⟨%d2, H2⟩⟩
  rw [main_before0, main_before1]
  iapply (wp_wand_r frame (wpE (defs₀ (F := F)) 𝒱₀ (T c) none) Set.univ)
  isplitl [H0 H1 H2 Hs]
  · iapply (main_body c (grid1.coords t) (win1_0.stage (cfg1.slots t 0)) (hstage1_0 ((cfg1.slots t 0).cast nbuf1_0)) (win1_1.stage (cfg1.slots t 1))
      (hstage1_1 ((cfg1.slots t 1).cast nbuf1_1)) (win1_2.stage (cfg1.slots t 2)) (hstage1_2 ((cfg1.slots t 2).cast nbuf1_2))
      (Memref.whole cc1_scratch0) (Memref.isWhole_whole _) (predBlock V c t) (normBlock V c t) ((mainDat V c).before 2 t d2) s0)
    isplitl [H0]; · iexact H0
    isplitl [H1]; · iexact H1
    isplitl [H2]; · iexact H2
    iapply (Entails.of_eq (scratch_owns c s0).symm)
    iexact Hs
  iintro %_ ⟨H0, H1, H2, ⟨%s1, Hs⟩⟩
  isplitl [Ha Hb Hc Hd Hs]
  · isplitl [Ha]; · iexact Ha
    isplitl [Hb]; · iexact Hb
    isplitl [Hc]; · iexact Hc
    isplitl [Hd]; · iexact Hd
    iexists s1
    iapply (Entails.of_eq (scratch_owns c s1))
    iexact Hs
  isplitl [Howes]; · iexact Howes
  isplitl [H0]; · iexact H0
  isplitl [H1]; · iexact H1
  iexact H2

/-- The array the pipeline leaves. -/
def mainOut (c : Dev nD) : Buf (Elt F) ((SparseCore.T (τ := τ) c : Thread nD τ).loc main_v1) := (mainDat V c).arrAt 2 cfg1.N

/-! ## The pipeline over the thread's buffers -/

variable (Vp : Vals F)

set_option backward.isDefEq.respectTransparency.types false in
def mainSeg (hVp_out : ∀ c, Vp c main_v1 = mainOut V c) (hVp_ne : ∀ c (b : Ref sig .tc), b ≠ main_v1 → Vp c b = V c b) :
    Pipeline.RegionSeg (pcfgs (F := F)) adm (mainDats V adm) (none : HIx 1) defs₀ 𝒱₀ (K (F := F)).L (K (F := F)).lev 1 where
  win := (launch1).win.to₀
  block_pos := (launch1).block_pos
  stage_whole := (launch1).stage_whole
  K := PEmpty
  osem k := k.elim
  ho := Pipeline.OwnSemFacts.none _
  hbody c := (main_obligation V c).loose
  hwaits c := Pipeline.cellsWaits_intro _ _ _ _ _ fun w s t => (K (F := F)).mayWait_none _ (owed_none c)
  pre c := iprop(unscopedBufs c (V c) ∗ debt (F := F) c)
  post c := iprop(unscopedBufs c (Vp c) ∗ debt (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 1) (pcfgs (F := F)) adm (mainDats V adm) (launch1).win (launch1).arr_whole c
      ((mainDats V adm 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (mainDats V adm 1 c).Φ 0 = mainΦ c from rfl]
    iintro ⟨-, -, Hr⟩; iexact Hr
  hout c := by
    rw [Pipeline.ownSems0_none, show (mainDats V adm 1 c).Φ (Fin.last _) = mainΦ c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) (launch1).win (launch1).arr_whole c
      (mainDats V adm) ((mainDats V adm 1 c).share_full fun _ => rfl) (V c) (Vp c) ((mainDats V adm 1 c).arrAt · cfg1.N)
      (fun w => by
        fin_cases w
        · exact ((mainDats V adm 1 c).arrAt_in 0 rfl _).trans (hVp_ne c main_arg0 (by decide)).symm
        · exact ((mainDats V adm 1 c).arrAt_in 1 rfl _).trans (hVp_ne c main_v0 (by decide)).symm
        · exact (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; (· iexact HO)
    ipureintro
    intro p hp
    rcases hW hp with h | ⟨w, s, rfl⟩
    · exact h
    · exact Nat.zero_le _

/-! ## The array it leaves, written out -/

/-- A grid point as coordinates. -/
def pointOf (b : Fin 8) : grid1.Coords := grid1.coords (b.cast N_1.symm)

/-- The candidates of every row: row `j` comes from the block that holds it. -/
def cands (X : Vec F S4096x2048 .f32) (N : Vec F S2048x4096 .bf16) : Vec F S4096x256 .f32 := fun j =>
  candBlock (pointOf ⟨(j 0).val / 512, by have h : (j 0).val < 4096 := (j 0).isLt; omega⟩)
    (rowsBlock X ⟨(j 0).val / 512, by have h : (j 0).val < 4096 := (j 0).isLt; omega⟩) N fun
    | 0 => ⟨(j 0).val % 512, Nat.mod_lt _ (by show 0 < 512; omega)⟩
    | 1 => j 1
    | ⟨_ + 2, h⟩ => absurd h (Nat.not_lt.2 (Nat.le_add_left _ _))

theorem cands_at (X : Vec F S4096x2048 .f32) (N : Vec F S2048x4096 .bf16) (b : Fin 8) (y : S512x256.Idx) (j : S4096x256.Idx)
    (h0 : (j 0).val = 512 * b.val + (y 0).val) (h1 : (j 1).val = (y 1).val) : cands X N j = candBlock (pointOf b) (rowsBlock X b) N y := by
  have hy : (y 0).val < 512 := (y 0).isLt
  unfold cands
  rw [show (⟨(j 0).val / 512, by have h : (j 0).val < 4096 := (j 0).isLt; omega⟩ : Fin 8) = b from Fin.ext (by show _ / 512 = _; omega)]
  congr 1
  funext a
  match a with
  | ⟨0, _⟩ => exact Fin.ext (by show _ % 512 = (y 0).val; omega)
  | ⟨1, _⟩ => exact Fin.ext h1

theorem predBlock_eq (c : Dev nD) (t : Fin cfg1.N) : predBlock V c t = rowsBlock (V c main_arg0) (t.cast N_1) := by
  have e : ∀ t : Fin cfg1.N, win1_0.index t = ![t.val, 0] := (by decide +kernel : ∀ t : Fin grid1.N, _)
  funext k
  show V c main_arg0 ((win1_0.blk t).view.emb k) = V c main_arg0 _
  congr 1
  funext a
  match a with
  | ⟨0, _⟩ => refine Fin.ext ?_; blk_simp [e]; show _ = 512 * t.val + _; simp; omega
  | ⟨1, _⟩ => refine Fin.ext ?_; blk_simp [e]; show _ = (k 1).val; simp

theorem normBlock_eq (c : Dev nD) (t : Fin cfg1.N) : normBlock V c t = V c main_v0 := by
  have e : ∀ t : Fin cfg1.N, win1_1.index t = ![0, 0] := (by decide +kernel : ∀ t : Fin grid1.N, _)
  funext k
  show V c main_v0 ((win1_1.blk t).view.emb k) = V c main_v0 k
  congr 1
  funext a
  match a with
  | ⟨0, _⟩ => refine Fin.ext ?_; blk_simp [e]
  | ⟨1, _⟩ => refine Fin.ext ?_; blk_simp [e]

theorem mainOut_eq (c : Dev nD) : mainOut V c = cands (V c main_arg0) (V c main_v0) := by
  have e : ∀ t : Fin cfg1.N, win1_2.index t = ![t.val, 0] := (by decide +kernel : ∀ t : Fin grid1.N, _)
  refine (mainDat V c).arrAt_eq_of_covers 2 (cands (V c main_arg0) (V c main_v0)) (by decide +kernel) fun t hf y => ?_
  blk_simp
  rw [cands_at (V c main_arg0) (V c main_v0) (t.cast N_1) y _ (by blk_simp [e]; show _ = 512 * t.val + _; simp; omega) (by blk_simp [e]),
    ← predBlock_eq, ← normBlock_eq V c t]
  rfl

end Cert.Proof.Nearest

end
-- ==== Proof.Run.lean ====
/-
  The whole program's run: the two pipelined kernels, the SparseCore call and the closing operations, with what every
  array holds after each; and from it the program's run from any memory.
-/
module

public import proofs.«01_k».proof.Proof.Tasks
public import proofs.«01_k».proof.Proof.MainRegion
public import Idealize.ShloMosaic.Lib.Pipeline.Frame

@[expose] public section

noncomputable section

namespace Cert.Proof.Nearest

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.ShloMosaic.StableHlo (held held_sub_split held_congr)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The arrays as the program goes -/

variable (m : (ℓ : Loc nD τ sig) → Buf (Elt F) ℓ) (ρ : Dev nD → PrngReg)

/-- The candidates, from the two arguments. -/
def candOfArgs (X Y : Vec F S4096x2048 .f32) : Vec F S4096x256 .f32 := cands X (normTr Y)
abbrev candsAt (d : Dev nD) : S4096x256.Idx → Elt F .f32 := candOfArgs (m (predLoc d)) (m (targetLoc d))

/-- Every array: at the launch, after each of the two pipelines, and after the SparseCore call. -/
def W0 (d : Dev nD) : Valuation τ sig (Elt F) := fun b => m (d, b)
def W1 (d : Dev nD) : Valuation τ sig (Elt F) := Function.update (W0 m d) (Proc.devRef .tc main_v0) (normTr (m (targetLoc d)))
def W2 (d : Dev nD) : Valuation τ sig (Elt F) := Function.update (W1 m d) (Proc.devRef .tc main_v1) (candsAt m d)
def W3 (d : Dev nD) : Valuation τ sig (Elt F) := Function.update (W2 m d) (Proc.devRef .tc main_v2) (partials (candsAt m d))

/-- The closing operations. -/
abbrev closing : List (HloOp τ sig (Elt F)) :=
  [StableHlo.nullary main_cst (constant S_ .f32 0x00000000#32),
   StableHlo.binary main_v2 main_cst main_v3 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.nullary main_cst_0 (constant S_ .f32 0x47800000#32),
   StableHlo.binary main_v3 main_cst_0 main_v4 (Host.divf : (⟨S_, .f32⟩ : BufTy).Contents (Elt F) → (⟨S_, .f32⟩ : BufTy).Contents (Elt F) → (⟨S_, .f32⟩ : BufTy).Contents (Elt F)),
   StableHlo.nullary main_cst_1 (constant S_ .f32 0x40000000#32),
   StableHlo.binary main_cst_1 main_v4 main_v5 (subf : (⟨S_, .f32⟩ : BufTy).Contents (Elt F) → (⟨S_, .f32⟩ : BufTy).Contents (Elt F) → (⟨S_, .f32⟩ : BufTy).Contents (Elt F))]

def W4 (d : Dev nD) : Valuation τ sig (Elt F) := StableHlo.after closing (W3 m d)

/-- The result, from the candidates. -/
def resultOf (C : Vec F S4096x256 .f32) : Vec F S_ .f32 :=
  subf (constant S_ .f32 0x40000000#32) (Host.divf (Host.reduceAdd (partials C) (constant S_ .f32 0x00000000#32) reducesTo_S32x16_S_d0_1 h_S_) (constant S_ .f32 0x47800000#32))

theorem W4_out (d : Dev nD) : W4 m d (Proc.devRef .tc main_v5) = resultOf (candsAt m d) := by
  unfold W4
  after_results
  rfl

theorem W4_pred (d : Dev nD) : W4 m d (Proc.devRef .tc main_arg0) = m (predLoc d) := by
  unfold W4
  after_results
  rfl

theorem W4_target (d : Dev nD) : W4 m d (Proc.devRef .tc main_arg1) = m (targetLoc d) := by
  unfold W4
  after_results
  rfl

/-! ## The pipelines' regions over these arrays -/

abbrev adm : (p : Fin 2) → (pcfgs (F := F) p).Adm := fun p => (cfgs p).toPCfg_adm

/-- A valuation read at the TensorCore's references. -/
abbrev atRefs (W : (d : Dev nD) → Valuation τ sig (Elt F)) : Vals F := fun c b => W c (Proc.devRef .tc b)

theorem update_ref (W : Valuation τ sig (Elt F)) (r b : Ref sig .tc) (h : b ≠ r) (x : (Proc.devRef (τ := τ) .tc r).ty.Contents (Elt F)) :
    Function.update W (Proc.devRef .tc r) x (Proc.devRef .tc b) = W (Proc.devRef .tc b) :=
  Function.update_of_ne (fun e => h (Proc.devRef_injective _ e)) _ _

def prepRegion : Pipeline.RegionSeg (pcfgs (F := F)) adm (prepDats (atRefs (W0 m)) adm) (none : HIx 1) defs₀ 𝒱₀ (K (F := F)).L (K (F := F)).lev 0 :=
  prepSeg (atRefs (W0 m)) adm (atRefs (W1 m)) (fun c => (Function.update_self ..).trans (prepOut_eq (atRefs (W0 m)) c).symm)
    (fun c b h => update_ref _ _ _ h _)

def mainRegion : Pipeline.RegionSeg (pcfgs (F := F)) adm (mainDats (atRefs (W1 m)) adm) (none : HIx 1) defs₀ 𝒱₀ (K (F := F)).L (K (F := F)).lev 1 :=
  mainSeg (atRefs (W1 m)) adm (atRefs (W2 m))
    (fun c => ((Function.update_self ..).trans (by
      rw [show atRefs (W1 m) c main_v0 = normTr (m (targetLoc c)) from Function.update_self ..,
        show atRefs (W1 m) c main_arg0 = m (predLoc c) from update_ref _ _ _ (by decide) _]; rfl)).trans (mainOut_eq (atRefs (W1 m)) c).symm)
    (fun c b h => update_ref _ _ _ h _)

/-- The ghost state of one pipeline on one device. -/
abbrev pipeGhost (p : Fin 2) (d : Dev nD) : sProp 𝕄 :=
  iprop(Pipeline.cellsGhost (Pipeline.pin (pcfgs (F := F)) adm) EP p d ∗ Pipeline.toksInit (Pipeline.pin (pcfgs (F := F)) adm) EP p d)

/-- A pipeline's call, under the pipelines' own labels. -/
theorem wp_region' [∀ e, Nonempty (Elt F e)] {p : Fin 2} {pdats : (p : Fin 2) → (c : Dev nD) → Pipeline.Dat τ (Elt F) (HIx 1) ℕ UU ℕ (Pipeline.pin (pcfgs (F := F)) adm p) c}
    (R : Pipeline.RegionSeg (pcfgs (F := F)) adm pdats (none : HIx 1) defs₀ 𝒱₀ (K (F := F)).L (K (F := F)).lev p) (d : Dev nD) (Φ : PUnit → sProp 𝕄) :
    iprop(boundary (T d) ∗ R.pre d ∗ levAts (K (F := F)).L (K (F := F)).lev ∗ pipeGhost (F := F) p d ∗ (iprop(boundary (T d) ∗ R.post d) -∗ Φ ⟨⟩))
      ⊢ wp frame (wpE (D (F := F)) 𝒱 (T d) none) Set.univ (.op (.customCall (Pipeline.entry p) ()) fun _ => .ret ⟨⟩) Φ := by
  iintro ⟨Hb, Hpre, Hlv, ⟨Hg, Ht⟩, Hk⟩
  iapply (Pipeline.RegionSeg.wp (pcfgs (F := F)) adm pdats (none : HIx 1) cellOf_inj EP defs₀ 𝒱₀ (K (F := F)).L (K (F := F)).lev R d none (fun u hu => nomatch hu) (fun _ => .ret ⟨⟩) Φ)
  isplitl [Hk]
  · iintro H
    rw [wp_ret]
    imodintro
    iapply Hk
    iexact H
  isplitl [Hb]; · iexact Hb
  isplitl [Hpre]; · iexact Hpre
  isplitl [Hlv]; · iexact Hlv
  isplitl [Hg] <;> iassumption

/-- The same, called from the program with the SparseCore's labels. -/
theorem wp_region [∀ e, Nonempty (Elt F e)] {p : Fin 2} {pdats : (p : Fin 2) → (c : Dev nD) → Pipeline.Dat τ (Elt F) (HIx 1) ℕ UU ℕ (Pipeline.pin (pcfgs (F := F)) adm p) c}
    (R : Pipeline.RegionSeg (pcfgs (F := F)) adm pdats (none : HIx 1) defs₀ 𝒱₀ (K (F := F)).L (K (F := F)).lev p) (d : Dev nD) (Φ : PUnit → sProp 𝕄) :
    iprop(boundary (T d) ∗ R.pre d ∗ levAts (K (F := F)).L (K (F := F)).lev ∗ pipeGhost (F := F) p d ∗ (iprop(boundary (T d) ∗ R.post d) -∗ Φ ⟨⟩))
      ⊢ wp frame (wpE ((K (F := F)).defs (D (F := F))) 𝒱 (T d) none) Set.univ (Prog.lift (.customCall (SparseCore.inner (Pipeline.entry p)) ())) Φ := by
  refine BI.Entails.trans ?_ ((K (F := F)).wp_liftProg (D (F := F)) 𝒱 (T d) Set.univ none (Prog.lift (.customCall (Pipeline.entry p) ())) Φ)
  exact wp_region' R d Φ

/-! ## The launch's ghost state -/

def u₀ : UU :=
  (initOf (K (F := F)).hsCells (K (F := F)).hsToks,
    (initOf (Pipeline.cells (nD := nD) (τ := τ) cfgs cellOf_inj) (Pipeline.launchToks (nD := nD) (τ := τ) cfgs cellOf_inj), 1))

abbrev G (d : Dev nD) : sProp 𝕄 := iprop(pipeGhost (F := F) 0 d ∗ pipeGhost (F := F) 1 d)

theorem pipes_split (Φ : Fin 2 → sProp 𝕄) : bigSep Finset.univ Φ = iprop(Φ 0 ∗ Φ 1) :=
  bigSep_univ_eq_bigSepL [(0 : Fin 2), (1 : Fin 2)] (by decide) (by decide) Φ

theorem ghost_split :
    iprop((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c : sProp 𝕄)))
      ⊢ bigSep Finset.univ fun d : Dev nD => G (F := F) d := by
  rw [bigSep_univ_of_subsingleton (0 : Fin 1), bigSep_univ_of_subsingleton (0 : Fin 1), bigSep_univ_of_subsingleton (0 : Fin 1), pipes_split, pipes_split]
  iintro ⟨⟨Hc0, Hc1⟩, ⟨Ht0, Ht1⟩⟩
  isplitl [Hc0 Ht0]; · isplitl [Hc0] <;> iassumption
  isplitl [Hc1] <;> iassumption

theorem bigSep_emp' {I : Type} (s : Finset I) : (bigSep s fun _ => iprop(emp)) = (iprop(emp) : sProp 𝕄) := bigSep_emp_const s

variable (C : Dev nD → S4096x256.Idx → Elt F .f32) (f₀ : (d : Dev nD) → Buf (Elt F) (partLoc d))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P C f₀).x q thr) := by
  unfold u₀
  iintro Hu
  ihave H := (ownU_pair (initOf (K (F := F)).hsCells (K (F := F)).hsToks) _) $$ Hu
  icases H with ⟨HH, HP⟩
  ihave H := (own_pair_emb (embR (nD := nD) (τ := τ) (sig := sig) (Ix := HIx 1) (Val := Elt F) (Name := ℕ) (Lvl := ℕ)) _ (1 : Counters)) $$ HP
  icases H with ⟨HP, -⟩
  ihave HP' := (show BI.own (((Emb.inl : Emb UP (UP × Counters)).trans (embR (nD := nD) (τ := τ) (sig := sig) (Ix := HIx 1) (Val := Elt F) (Name := ℕ) (Lvl := ℕ)))
      (initOf (Pipeline.cells (nD := nD) (τ := τ) cfgs cellOf_inj) (Pipeline.launchToks (nD := nD) (τ := τ) cfgs cellOf_inj)))
      ⊢ iprop(|==> ((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c : sProp 𝕄))))
    from Pipeline.fund_ghost (Pipeline.pin (pcfgs (F := F)) adm) EP cellOf_inj) $$ HP
  imod HP' with ⟨Hc, Ht⟩
  imodintro
  isplitl [HH]; · iexact HH
  isplitl [Hc Ht]
  · iapply (ghost_split (F := F))
    isplitl [Hc] <;> iassumption
  rw [show (bigSep Finset.univ fun thr : Thread nD τ => bigSep Finset.univ fun q : Fin 1 => (P (F := F) C f₀).x q thr) = bigSep Finset.univ fun _ => iprop(emp) from
    bigSep_congr fun _ _ => bigSep_univ_of_subsingleton (0 : Fin 1), bigSep_emp']
  iempintro

/-! ## The TensorCore's thread -/

/-- What it ends with: every array as the closing operations leave it. -/
abbrev FIN (d : Dev nD) : sProp 𝕄 := held (T d) (ucRefs τ sig) (W4 m d)

/-- The candidates and the partial sums, out of all the arrays. -/
abbrev callRefs : Finset (DevRef τ sig) := {Proc.devRef .tc main_v1, Proc.devRef .tc main_v2}

theorem callRefs_sub : callRefs ⊆ ucRefs τ sig := by decide

theorem held_call (d : Dev nD) (W : Valuation τ sig (Elt F)) :
    (held (T d) callRefs W : sProp 𝕄) = iprop((candLoc d ↦{fullShare} W (Proc.devRef .tc main_v1)) ∗ (partLoc d ↦{fullShare} W (Proc.devRef .tc main_v2))) := by
  unfold StableHlo.held
  rw [SparseCore.bigSep_insert' (by decide), bigSep_singleton]

theorem call_before (d : Dev nD) :
    (held (T d) callRefs (W2 m d) : sProp 𝕄) = iprop((candLoc d ↦{fullShare} candsAt m d) ∗ (partLoc d ↦{fullShare} m (partLoc d))) := by
  rw [held_call, show W2 m d (Proc.devRef .tc main_v1) = candsAt m d from Function.update_self ..,
    show W2 m d (Proc.devRef .tc main_v2) = m (partLoc d) from (update_ref _ _ _ (by decide) _).trans (update_ref _ _ _ (by decide) _)]

theorem call_after (d : Dev nD) :
    (held (T d) callRefs (W3 m d) : sProp 𝕄) = iprop((candLoc d ↦{fullShare} candsAt m d) ∗ (partLoc d ↦{fullShare} partials (candsAt m d))) := by
  rw [held_call, show W3 m d (Proc.devRef .tc main_v1) = candsAt m d from (update_ref _ _ _ (by decide) _).trans (Function.update_self ..),
    show W3 m d (Proc.devRef .tc main_v2) = partials (candsAt m d) from Function.update_self ..]

theorem W3_off (d : Dev nD) (b : DevRef τ sig) (h : b ∈ ucRefs τ sig \ callRefs) : W2 m d b = W3 m d b :=
  (Function.update_of_ne (fun e => (Finset.mem_sdiff.mp h).2 (by rw [e]; decide)) _ _).symm

theorem closing_sub : ∀ op ∈ closing (F := F), op.bufs ⊆ ucRefs τ sig := by
  intro op h
  simp only [closing, List.mem_cons, List.not_mem_nil, or_false] at h
  rcases h with rfl | rfl | rfl | rfl | rfl | rfl
  · exact show ({Proc.devRef .tc main_cst} : Finset (DevRef τ sig)) ⊆ ucRefs τ sig by decide
  · exact show ({Proc.devRef .tc main_v2, Proc.devRef .tc main_cst, Proc.devRef .tc main_v3} : Finset (DevRef τ sig)) ⊆ ucRefs τ sig by decide
  · exact show ({Proc.devRef .tc main_cst_0} : Finset (DevRef τ sig)) ⊆ ucRefs τ sig by decide
  · exact show ({Proc.devRef .tc main_v3, Proc.devRef .tc main_cst_0, Proc.devRef .tc main_v4} : Finset (DevRef τ sig)) ⊆ ucRefs τ sig by decide
  · exact show ({Proc.devRef .tc main_cst_1} : Finset (DevRef τ sig)) ⊆ ucRefs τ sig by decide
  · exact show ({Proc.devRef .tc main_cst_1, Proc.devRef .tc main_v4, Proc.devRef .tc main_v5} : Finset (DevRef τ sig)) ⊆ ucRefs τ sig by decide

theorem closing_fresh : ∀ op ∈ closing (F := F), op.fresh = ∅ := by
  intro op h
  simp only [closing, List.mem_cons, List.not_mem_nil, or_false] at h
  rcases h with rfl | rfl | rfl | rfl | rfl | rfl <;> rfl

abbrev Pm : (K (F := F)).Pay (nD := nD) (Val := Elt F) (Name := ℕ) (U := UU) := P (candsAt m) (fun d => m (partLoc d))

theorem prep_pre (d : Dev nD) : (prepRegion m).pre d = (iprop(unscopedBufs d (fun b => m ((SparseCore.T d : Thread nD τ).loc b)) ∗ debt (F := F) d) : sProp 𝕄) := rfl
theorem prep_post (d : Dev nD) : (prepRegion m).post d = (mainRegion m).pre d := rfl
theorem main_post (d : Dev nD) : (mainRegion m).post d = (iprop(held (T d) (ucRefs τ sig) (W2 m d) ∗ debt (F := F) d) : sProp 𝕄) := by
  show iprop(unscopedBufs d (atRefs (W2 m) d) ∗ debt (F := F) d) = _
  rw [← Pipeline.unscopedBufs_held]

theorem main_eq (d : Dev nD) : (main (F := F) d) = (do
    Prog.lift (.customCall (SparseCore.inner (Pipeline.entry 0)) ())
    Prog.lift (.customCall (SparseCore.inner (Pipeline.entry 1)) ())
    (K (F := F)).run d 0
    StableHlo.seq closing) := rfl

/-- The state of the handshakes after the call, its parts named. -/
theorem tcSt_one (d : Dev nD) :
    ((K (F := F)).tcSt EH d ((0 : Fin 1).val + 1) : sProp 𝕄) = iprop((∃ W,
      ⌜(K (F := F)).WBelow (SparseCore.T d) W (8 * SparseCore.Cfg.Blocks.fst 1 1 1)⌝ ∗ owes (SparseCore.T d) ((K (F := F)).Otc d 1) W) ∗
    atPos EH ((K (F := F)).doneCell d) 1 ∅ 0 ∗
      reached EH ((K (F := F)).doneCell d) 1 ∗
        [∗ Finset.univ] (c : Fin τ.nSC), reached EH ((K (F := F)).startCell d c) ((K (F := F)).sRank c 1) ∗
          [∗ SparseCore.Cfg.callsFrom 1] (q : Fin 1),
            [∗ Finset.univ] (c : Fin ((K (F := F)).nCore q)),
              iprop(dutyTok EH ((K (F := F)).startCell d ((K (F := F)).core q c)) ((K (F := F)).sRank ((K (F := F)).core q c) ↑q) 0 ∗
                  cred (tallyAt ((K (F := F)).doneCell d) (some (SparseCore.Cfg.Blocks.last q)) 1))) := rfl

/-- The closing operations, over all the arrays. -/
theorem seq_closing (d : Dev nD) (Φ : PUnit → sProp 𝕄) :
    iprop(boundary (T d) ∗ held (T d) (ucRefs τ sig) (W3 m d))
      ⊢ iprop(((boundary (T d) ∗ FIN m d) -∗ Φ ⟨⟩)
        -∗ wp frame (wpE ((K (F := F)).defs (D (F := F))) 𝒱 (SparseCore.T d) none) Set.univ (StableHlo.seq closing) Φ) := by
  have h := StableHlo.wp_seq (defs := (K (F := F)).defs (D (F := F))) 𝒱 none Set.univ d (ucRefs τ sig) (fun _ => .ret (⟨⟩ : PUnit)) (K := Φ) closing closing_sub closing_fresh (W3 m d)
  rw [show (StableHlo.seq closing >>= fun _ => .ret (⟨⟩ : PUnit)) = StableHlo.seq closing from bind_pure _] at h
  refine h.trans ?_
  iintro H Hk
  iapply H
  iintro Hend
  rw [wp_ret]
  imodintro
  iapply Hk
  iexact Hend

theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  simp only [wp_bind]
  iintro ⟨#Hctx, Hst, ⟨Hb, Hbufs, Hts, -⟩, ⟨Hg0, Hg1⟩⟩
  unfold SparseCore.Cfg.tcSt
  icases Hst with ⟨Hdebt, Hrest⟩
  ihave #Hlev := ((K (F := F)).ctx_levAts κ) $$ Hctx
  iapply (wp_region (prepRegion m) d _)
  isplitl [Hb]; · iexact Hb
  isplitl [Hbufs Hdebt]
  · rw [prep_pre]
    isplitl [Hbufs]; · iexact Hbufs
    iexact Hdebt
  isplitr; · iexact Hlev
  isplitl [Hg0]; · iexact Hg0
  iintro ⟨Hb, Hpost⟩
  ihave Hpost' := (Entails.of_eq (prep_post m d)) $$ Hpost
  iapply (wp_region (mainRegion m) d _)
  isplitl [Hb]; · iexact Hb
  isplitl [Hpost']; · iexact Hpost'
  isplitr; · iexact Hlev
  isplitl [Hg1]; · iexact Hg1
  iintro ⟨Hb, Hpost⟩
  ihave Hpost' := (Entails.of_eq (main_post m d)) $$ Hpost
  icases Hpost' with ⟨Hheld, Hdebt⟩
  ihave Hheld' := (Entails.of_eq (held_sub_split (T d) callRefs_sub (W2 m d))) $$ Hheld
  icases Hheld' with ⟨Hcall, Hoff⟩
  ihave Hcall' := (Entails.of_eq (call_before m d)) $$ Hcall
  iapply ((K (F := F)).wp_run (D (F := F)) 𝒱 (EH := EH) (P := Pm m) κ d 0)
  isplitr; · iexact Hctx
  isplitl [Hdebt Hrest]
  · unfold SparseCore.Cfg.tcSt
    isplitl [Hdebt]; · iexact Hdebt
    iexact Hrest
  isplitl [Hcall']
  · rw [st_eq]
    iexact Hcall'
  iintro ⟨Hst, Hdn⟩
  ihave Hcall := (Entails.of_eq ((dn_eq (candsAt m) (fun d => m (partLoc d)) d).trans (call_after m d).symm)) $$ Hdn
  ihave Hoff' := (Entails.of_eq (held_congr (T d) (W3_off m d))) $$ Hoff
  ihave Hheld := (Entails.of_eq (held_sub_split (T d) callRefs_sub (W3 m d)).symm) $$ [Hcall Hoff']
  · isplitl [Hcall] <;> iassumption
  iapply (seq_closing m d) $$ [Hb Hheld]
  · isplitl [Hb] <;> iassumption
  iintro ⟨Hb, Hheld⟩
  isplitl [Hst]; · iapply (Entails.of_eq (tcSt_one d)) $$ Hst
  isplitl [Hheld]; · iexact Hheld
  isplitl [Hb] <;> iassumption

/-! ## The end of the run -/

def fq (d : Dev nD) (s' : Phys nD τ sig (Elt F)) : Prop :=
  s'.mem.mem (predLoc d) = m (predLoc d) ∧ s'.mem.mem (targetLoc d) = m (targetLoc d) ∧ s'.mem.mem (outLoc d) = resultOf (candsAt m d)

/-- The two arguments and the result, out of all the arrays. -/
abbrev endRefs : Finset (DevRef τ sig) := {Proc.devRef .tc main_arg0, Proc.devRef .tc main_arg1, Proc.devRef .tc main_v5}

theorem held_end (d : Dev nD) :
    FIN m d ⊢ (iprop((predLoc d ↦{fullShare} m (predLoc d)) ∗ (targetLoc d ↦{fullShare} m (targetLoc d)) ∗ (outLoc d ↦{fullShare} resultOf (candsAt m d))) : sProp 𝕄) := by
  unfold FIN
  rw [held_sub_split (T d) (show endRefs ⊆ ucRefs τ sig by decide), ← W4_pred m d, ← W4_target m d, ← W4_out m d]
  refine sep_elim_left.trans (Entails.of_eq ?_)
  unfold StableHlo.held
  rw [SparseCore.bigSep_insert' (by decide), SparseCore.bigSep_insert' (by decide), bigSep_singleton]

theorem hfin (d : Dev nD) (s' : Phys nD τ sig (Elt F)) : iprop(FIN m d ∗ SI s') ⊢ (⌜fq m d s'⌝ : sProp 𝕄) := by
  iintro ⟨HF, HSI⟩
  ihave HF' := (held_end m d) $$ HF
  icases HF' with ⟨Hx, Hy, Ho⟩
  ihave H := (persistent_entails_right (SI_pointsTo_agree (st := s') (ℓ := predLoc d) (I := Finset.univ) (q := fullShare) (f := m (predLoc d)))) $$ [HSI Hx]
  · isplitl [HSI] <;> iassumption
  icases H with ⟨%hx, HSI, -⟩
  ihave H := (persistent_entails_right (SI_pointsTo_agree (st := s') (ℓ := targetLoc d) (I := Finset.univ) (q := fullShare) (f := m (targetLoc d)))) $$ [HSI Hy]
  · isplitl [HSI] <;> iassumption
  icases H with ⟨%hy, HSI, -⟩
  ihave H := (SI_pointsTo_agree (st := s') (ℓ := outLoc d) (I := Finset.univ) (q := fullShare) (f := resultOf (candsAt m d))) $$ [HSI Ho]
  · isplitl [HSI] <;> iassumption
  icases H with %ho
  ipureintro
  exact ⟨funext fun i => hx i (Finset.mem_univ i), funext fun i => hy i (Finset.mem_univ i), funext fun i => ho i (Finset.mem_univ i)⟩

/-- What every run ends with: the arguments as they were, the result at its value, every semaphore at zero. -/
def QC : PUnit × MemSt nD τ sig (Elt F) → Prop := fun r =>
  (∀ c : Dev nD, r.2.mem (predLoc c) = m (predLoc c) ∧ r.2.mem (targetLoc c) = m (targetLoc c) ∧ r.2.mem (outLoc c) = resultOf (candsAt m c))
    ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (candsAt m) (fun d => m (partLoc d)) facts)
    (fun q _ => match q with | 0 => SparseCore.Cfg.VecSplit.of_plain (vecSplit (candsAt m) (fun d => m (partLoc d))))
    m ρ main (fun d => G (F := F) d) (FIN m) (u₀ (F := F)) (sep_elim_left.trans (hu₀ (candsAt m) (fun d => m (partLoc d)))) (hmain m ρ) (fq m) (hfin m) (QC m)
    (fun _ h hz => ⟨h, hz⟩)

end Cert.Proof.Nearest

end
-- ==== Proof.Frames.lean ====
/- The frames: both readings of the kernel run to the end, leave their arguments as they were and every semaphore at zero. -/
module

public import proofs.«01_k».proof.Defs
public import proofs.«01_k».proof.Proof.Gen.Kernel
public import proofs.«01_k».proof.Proof.Run
public import proofs.«01_k».proof.Proof.Gen.ReferenceIdeal
public import proofs.«01_k».proof.Proof.Gen.ReferenceIdeal.Run

@[expose] public section

noncomputable section

namespace Cert.Proof.Nearest

open Idealize.ShloMosaic Idealize.SL.Sem

/-- The two readings of the program have the same bodies, label by label. -/
theorem same_bodies : Cert.Kernel.defs₀ (F := Bits) = Cert.KernelIdeal.defs₀ (F := Bits) := by
  funext p ℓ a
  match p, ℓ, a with
  | .tc, 0, _ => rfl
  | .tc, 1, _ => rfl
  | .tc, 2, _ => rfl
  | .scScalar _, 0, _ => rfl
  | .scScalar _, 1, _ => rfl
  | .scScalar _, 2, _ => rfl
  | .scVector _ _, 0, _ => rfl
  | .scVector _ _, 1, _ => rfl
  | .scVector _ _, 2, _ => rfl

theorem same_defs : Cert.Kernel.defs (F := Bits) = Cert.KernelIdeal.defs (F := Bits) :=
  congrArg (fun d => Cert.KernelIdeal.sc.defs (Pipeline.defs Cert.KernelIdeal.pcfgs d)) same_bodies

theorem frame_kernel : Cert.quiescent_Kernel := by
  intro m ρ _
  rw [same_defs]
  exact (θ_run Cert.KernelIdeal.defs _ _).mono (fun _ h => ⟨fun c => ⟨(h.1 c).1, (h.1 c).2.1⟩, h.2⟩) (run_main (F := Bits) m ρ)

theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Nearest

end
-- ==== Proof.TopK.lean ====
/-
  The host's top-k of the extended reals along the last axis: the greatest entries of a fiber, in descending order.
-/
module

public import Idealize.ShloMosaic.Lib.Pointwise
public import Idealize.ShloMosaic.Lib.SortFacts
public import Idealize.ShloMosaic.Lib.SortNet.TopList

@[expose] public section

noncomputable section

namespace Cert.Proof.Nearest

open Idealize.ShloMosaic Idealize.ShloMosaic.SortNet

/-- The order the host's top-k places the entries of a fiber by. -/
abbrev above {n : ℕ} (f : Fin n → EReal) (k k' : Fin n) : Bool := FloatOps.cmpfTotal (F := Ideal) (φ := .f32) .gt (f k) (f k') == 1#1

theorem above_iff {n : ℕ} (f : Fin n → EReal) (k k' : Fin n) : above f k k' = decide (f k' < f k) := by
  show (BitVec.ofBool (decide (f k' < f k)) == 1#1) = _
  by_cases h : f k' < f k <;> simp [h]

/-- A fiber in the top-k's order is the fiber sorted, greatest first. -/
theorem ofFn_sorted {n : ℕ} (f : Fin n → EReal) : List.ofFn (fun k => f (sortedFrom (above f) k)) = (List.ofFn f).insertionSort (· ≥ ·) := by
  refine eq_of_perm_of_descending ?_ ?_ (List.pairwise_insertionSort _ _)
  · have hσ : Function.Bijective (sortedFrom (above f)) := ⟨sortedFrom_injective _, sortedFrom_surjective _⟩
    exact (Equiv.Perm.ofFn_comp_perm (Equiv.ofBijective _ hσ) f).trans (List.perm_insertionSort _ _).symm
  · rw [List.pairwise_ofFn]
    intro i j hij
    have h := sortedFrom_noInversion (above f) (above f)
      (fun a b h => by rw [above_iff, decide_eq_true_eq] at h; rw [above_iff, decide_eq_false_iff_not]; exact h.asymm)
      (fun a b h => h)
      (fun a b c hab hbc => by
        rw [above_iff, decide_eq_false_iff_not, not_lt] at hab hbc ⊢
        exact hab.trans hbc) i j hij
    rw [above_iff, decide_eq_false_iff_not, not_lt] at h
    exact h

/-- Its first places hold the greatest entries. -/
theorem ofFn_first {n m : ℕ} (hm : m ≤ n) (f : Fin n → EReal) :
    List.ofFn (fun k : Fin m => f (sortedFrom (above f) ⟨k.val, k.isLt.trans_le hm⟩)) = topList m (List.ofFn f) := by
  unfold topList
  rw [← ofFn_sorted]
  refine List.ext_getElem ?_ fun i h1 h2 => ?_
  · simp [hm]
  · simp

/-- Where a place of the result lies in the operand. -/
def placeIn {s t : Shape} (h : s.Slices (fun _ => 0) t) (j : t.Idx) : s.Idx :=
  fun a => ⟨0 + (j (a.cast h.1.symm)).val, Nat.lt_of_lt_of_le (Nat.add_lt_add_left (j _).isLt _) (h.2 a)⟩

/-- A value of the top-k. -/
theorem topK_apply {s t : Shape} {d : ℕ} (hd : d < s.rank) (x : s.Idx → EReal) (h : s.Slices (fun _ => 0) t) (j : t.Idx) :
    (Host.topK t d (FloatOps.cmpfTotal (F := Ideal) (φ := .f32) .gt) x h).1 j
      = x ((placeIn h j).along ⟨d, hd⟩ (sortedFrom (above fun k => x ((placeIn h j).along ⟨d, hd⟩ k)) (placeIn h j ⟨d, hd⟩))) := by
  unfold Host.topK Host.sort2
  simp only [dif_pos hd]
  rfl

/-- Top-k of a matrix along its rows. -/
theorem topK_rows {R n m : ℕ} (hm : m ≤ n) (x : (⟨2, ![R, n]⟩ : Shape).Idx → EReal) (h : (⟨2, ![R, n]⟩ : Shape).Slices (fun _ => 0) ⟨2, ![R, m]⟩)
    (r : Fin R) : List.ofFn (fun k : Fin m => (Host.topK ⟨2, ![R, m]⟩ 1 (FloatOps.cmpfTotal (F := Ideal) (φ := .f32) .gt) x h).1 (ix2 r k))
      = topList m (List.ofFn fun c : Fin n => x (ix2 r c)) := by
  rw [← ofFn_first hm]
  refine congrArg List.ofFn (funext fun k => ?_)
  have hal : ∀ c : Fin n, (placeIn h (ix2 r k)).along ⟨1, Nat.one_lt_two⟩ c = ix2 r c := by
    intro c
    funext a
    match a with
    | ⟨0, _⟩ => exact (Function.update_of_ne (fun e => absurd (congrArg Fin.val e) Nat.zero_ne_one) _ _).trans (Fin.ext (Nat.zero_add r.val))
    | ⟨1, _⟩ => exact Function.update_self _ _ _
  refine (topK_apply (d := 1) Nat.one_lt_two x h (ix2 r k)).trans ((congrArg x (hal _)).trans ?_)
  have hf : (fun c => x ((placeIn h (ix2 r k)).along ⟨1, Nat.one_lt_two⟩ c)) = fun c : Fin n => x (ix2 r c) := funext fun c => congrArg x (hal c)
  have hk : placeIn h (ix2 r k) ⟨1, Nat.one_lt_two⟩ = (⟨k.val, k.isLt.trans_le hm⟩ : Fin n) := Fin.ext (Nat.zero_add k.val)
  exact congrArg (fun q : Fin n => x (ix2 r q)) ((congrArg (fun f : Fin n → EReal => sortedFrom (above f) _) hf).trans (congrArg _ hk))

/-- Top-k of an array of three axes along the last. -/
theorem topK_last {R A n m : ℕ} (hm : m ≤ n) (x : (⟨3, ![R, A, n]⟩ : Shape).Idx → EReal)
    (h : (⟨3, ![R, A, n]⟩ : Shape).Slices (fun _ => 0) ⟨3, ![R, A, m]⟩) (r : Fin R) (a : Fin A) :
    List.ofFn (fun k : Fin m => (Host.topK ⟨3, ![R, A, m]⟩ 2 (FloatOps.cmpfTotal (F := Ideal) (φ := .f32) .gt) x h).1 (ix3 r a k))
      = topList m (List.ofFn fun c : Fin n => x (ix3 r a c)) := by
  rw [← ofFn_first hm]
  refine congrArg List.ofFn (funext fun k => ?_)
  have hal : ∀ c : Fin n, (placeIn h (ix3 r a k)).along ⟨2, Nat.lt_succ_self 2⟩ c = ix3 r a c := by
    intro c
    funext b
    match b with
    | ⟨0, _⟩ => exact (Function.update_of_ne (fun e => absurd (congrArg Fin.val e) (Nat.succ_ne_zero 1).symm) _ _).trans (Fin.ext (Nat.zero_add r.val))
    | ⟨1, _⟩ => exact (Function.update_of_ne (fun e => absurd (congrArg Fin.val e) (Nat.lt_succ_self 1).ne) _ _).trans (Fin.ext (Nat.zero_add a.val))
    | ⟨2, _⟩ => exact Function.update_self _ _ _
  refine (topK_apply (d := 2) (Nat.lt_succ_self 2) x h (ix3 r a k)).trans ((congrArg x (hal _)).trans ?_)
  have hf : (fun c => x ((placeIn h (ix3 r a k)).along ⟨2, Nat.lt_succ_self 2⟩ c)) = fun c : Fin n => x (ix3 r a c) := funext fun c => congrArg x (hal c)
  have hk : placeIn h (ix3 r a k) ⟨2, Nat.lt_succ_self 2⟩ = (⟨k.val, k.isLt.trans_le hm⟩ : Fin n) := Fin.ext (Nat.zero_add k.val)
  exact congrArg (fun q : Fin n => x (ix3 r a q)) ((congrArg (fun f : Fin n → EReal => sortedFrom (above f) _) hf).trans (congrArg _ hk))

end Cert.Proof.Nearest

end
-- ==== Proof.Normal.lean ====
/-
  Rows divided by their norm, over the extended reals. Whatever the row holds, its quotient by the greater of its norm and
  `10⁻¹²` is a row of real numbers whose squares add up to at most one: an infinite entry makes the norm infinite and the
  quotients zero. So the inner product of two such rows is a real number between minus one and one.
-/
module

public import Idealize.ShloMosaic.PureOps
public import Idealize.ShloMosaic.Lib.IdealHost

@[expose] public section

noncomputable section

namespace Cert.Proof.Nearest

open Idealize.ShloMosaic

variable {n : ℕ}

/-- The least divisor, `10⁻¹²`. -/
def eps : EReal := Ideal.ofBits .f32 0x2B8CBCCC#32

/-- It is a positive real. -/
theorem eps_pos : ∃ e : ℝ, 0 < e ∧ eps = (e : EReal) := by
  refine ⟨9223372 * (2 : ℝ) ^ (-63 : ℤ), by positivity, ?_⟩
  simp [eps, Ideal.ofBits, Ideal.ieee, -EReal.coe_mul]

/-- A row's divisor. -/
def divisor (x : Fin n → EReal) : EReal := max (Ideal.sqrt (∑ i, x i * x i)) eps

theorem divisor_ne_zero (x : Fin n → EReal) : divisor x ≠ 0 := by
  obtain ⟨e, he, h⟩ := eps_pos
  have : (0 : EReal) < eps := by rw [h]; exact_mod_cast he
  exact (this.trans_le (le_max_right _ _)).ne'

/-- A row divided by its divisor. -/
def unitRow (x : Fin n → EReal) (i : Fin n) : EReal := Ideal.div (x i) (divisor x)

theorem unitRow_eq (x : Fin n → EReal) (i : Fin n) : x i * Ideal.div 1 (divisor x) = unitRow x i :=
  Ideal.mul_one_div (divisor_ne_zero x)

theorem mul_self_nonneg' (a : EReal) : 0 ≤ a * a := by
  rcases le_total 0 a with h | h
  · exact mul_nonneg h h
  · rw [← neg_mul_neg]
    exact mul_nonneg (EReal.neg_nonneg.mpr h) (EReal.neg_nonneg.mpr h)

/-- A sum of reals, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The divided row is real, and its squares add up to at most one. -/
theorem unitRow_real (x : Fin n → EReal) : ∃ u : Fin n → ℝ, (∀ i, unitRow x i = (u i : EReal)) ∧ ∑ i, u i * u i ≤ 1 := by
  by_cases hx : ∀ i, x i ≠ ⊤ ∧ x i ≠ ⊥
  · have hr : ∀ i, x i = ((x i).toReal : EReal) := fun i => (EReal.coe_toReal (hx i).1 (hx i).2).symm
    obtain ⟨r, hr⟩ : ∃ r : Fin n → ℝ, ∀ i, x i = (r i : EReal) := ⟨_, hr⟩
    obtain ⟨e, he, hE⟩ := eps_pos
    have hS : ∑ i, x i * x i = ((∑ i, r i * r i : ℝ) : EReal) := by
      rw [coe_sum]
      exact Finset.sum_congr rfl fun i _ => by rw [hr i, EReal.coe_mul]
    have hS0 : 0 ≤ ∑ i, r i * r i := Finset.sum_nonneg fun i _ => mul_self_nonneg _
    set m : ℝ := max (Real.sqrt (∑ i, r i * r i)) e with hm
    have hm0 : 0 < m := he.trans_le (le_max_right _ _)
    have hd : divisor x = (m : EReal) := by
      unfold divisor
      rw [hS, Ideal.sqrt_coe, if_neg (not_lt.mpr hS0), hE, hm, EReal.coe_strictMono.monotone.map_max]
    refine ⟨fun i => r i / m, fun i => ?_, ?_⟩
    · unfold unitRow
      rw [hd, hr i, Ideal.div_coe hm0.ne', ← EReal.coe_mul]
      congr 1
      rw [mul_one_div]
    · have : ∀ i, r i / m * (r i / m) = r i * r i / (m * m) := fun i => by rw [div_mul_div_comm]
      simp only [this]
      rw [← Finset.sum_div, div_le_one (mul_pos hm0 hm0)]
      calc ∑ i, r i * r i = Real.sqrt (∑ i, r i * r i) * Real.sqrt (∑ i, r i * r i) := (Real.mul_self_sqrt hS0).symm
        _ ≤ m * m := mul_self_le_mul_self (Real.sqrt_nonneg _) (le_max_left _ _)
  · push Not at hx
    obtain ⟨i, hi⟩ := hx
    have hii : x i * x i = ⊤ := by
      by_cases h : x i = ⊤
      · rw [h]; rfl
      · rw [hi h]; rfl
    have hs : ∑ i, x i * x i = ⊤ := by
      refine top_le_iff.mp ?_
      rw [← hii]
      exact Finset.single_le_sum (f := fun i => x i * x i) (fun i _ => mul_self_nonneg' (x i)) (Finset.mem_univ i)
    have hd : divisor x = ⊤ := by
      unfold divisor
      rw [hs]
      exact top_le_iff.mp (le_max_left _ _)
    refine ⟨fun _ => 0, fun j => ?_, by simp⟩
    unfold unitRow Ideal.div
    rw [if_neg (divisor_ne_zero x), hd]
    simp

/-- The inner product of two divided rows: their similarity. -/
def sim (x y : Fin n → EReal) : EReal := ∑ i, unitRow x i * unitRow y i

/-- A similarity is a real number between minus one and one. -/
theorem sim_real (x y : Fin n → EReal) : ∃ r : ℝ, sim x y = (r : EReal) ∧ -1 ≤ r ∧ r ≤ 1 := by
  obtain ⟨u, hu, hu1⟩ := unitRow_real x
  obtain ⟨v, hv, hv1⟩ := unitRow_real y
  refine ⟨∑ i, u i * v i, ?_, ?_, ?_⟩
  · unfold sim
    rw [coe_sum]
    exact Finset.sum_congr rfl fun i _ => by rw [hu i, hv i, EReal.coe_mul]
  · have h : ∑ i, -(u i * u i + v i * v i) ≤ ∑ i, 2 * (u i * v i) := Finset.sum_le_sum fun i _ => by nlinarith [mul_self_nonneg (u i + v i)]
    rw [Finset.sum_neg_distrib, Finset.sum_add_distrib, ← Finset.mul_sum] at h
    linarith
  · have h : ∑ i, 2 * (u i * v i) ≤ ∑ i, (u i * u i + v i * v i) := Finset.sum_le_sum fun i _ => by nlinarith [mul_self_nonneg (u i - v i)]
    rw [Finset.sum_add_distrib, ← Finset.mul_sum] at h
    linarith

end Cert.Proof.Nearest

end
-- ==== Proof.Similar.lean ====
/-
  The TensorCore kernels' values at an index, over the extended reals: the similarities of a block of rows with all targets,
  the diagonal one, and the similarities with the diagonal hidden.
-/
module

public import proofs.«01_k».proof.Proof.MainRegion
public import proofs.«01_k».proof.Proof.Normal
public import Idealize.ShloMosaic.Lib.Pointwise

@[expose] public section

noncomputable section

namespace Cert.Proof.Nearest

open Cert.KernelIdeal Cert.KernelIdeal.Gen
open Idealize.ShloMosaic

/-- A row of an array. -/
def row {R : ℕ} (X : (⟨2, ![R, 2048]⟩ : Shape).Idx → EReal) (r : Fin R) (i : Fin 2048) : EReal := X (ix2 r i)

/-- Row `a` of block `b`, among all the rows. -/
abbrev rowIn (b : Fin 8) (a : Fin 512) : Fin 4096 := ⟨512 * b.val + a.val, by omega⟩

theorem row_rowsBlock (X : Vec Ideal S4096x2048 .f32) (b : Fin 8) (a : Fin 512) :
    row (R := 512) (rowsBlock X b) a = row (R := 4096) X (rowIn b a) := by
  funext i
  refine congrArg X (funext fun e => ?_)
  match e with
  | ⟨0, _⟩ => rfl
  | ⟨1, _⟩ => rfl

/-- The first kernel's output block: the rows divided by their norms, turned. -/
theorem pay1_at (Y : Vec Ideal S512x2048 .f32) (i : Fin 2048) (a : Fin 512) :
    k0_pay1 Y (ix2 i a) = unitRow (row (R := 512) Y a) i := by
  rw [← unitRow_eq]
  pointwise [k0_pay1]
  rfl

theorem normTr_ix (Y : Vec Ideal S4096x2048 .f32) (i : Fin 2048) (c : Fin 4096) :
    normTr Y (ix2 i c) = unitRow (row (R := 4096) Y c) i := by
  have hb : c.val / 512 < 8 := by omega
  have ha : c.val % 512 < 512 := by omega
  rw [normTr_at Y ⟨c.val / 512, hb⟩ (ix2 i ⟨c.val % 512, ha⟩) (ix2 i c) rfl (show c.val = 512 * (c.val / 512) + c.val % 512 by omega),
    pay1_at, row_rowsBlock]
  congr 2
  exact Fin.ext (show 512 * (c.val / 512) + c.val % 512 = c.val by omega)

/-- The second kernel's products: divided rows times the columns given. -/
theorem pay2_at (X : Vec Ideal S512x2048 .f32) (N : Vec Ideal S2048x4096 .bf16) (a : Fin 512) (c : Fin 4096) :
    (k1_pay2 X N (ix2 a c) : EReal) = ∑ i : Fin 2048, unitRow (row (R := 512) X a) i * N (ix2 i c) := by
  simp only [← unitRow_eq]
  pointwise [k1_pay2]
  rfl

/-- So the block's products are similarities. -/
theorem sims_at (X Y : Vec Ideal S4096x2048 .f32) (b : Fin 8) (a : Fin 512) (c : Fin 4096) :
    k1_pay2 (rowsBlock X b) (normTr Y) (ix2 a c) = sim (row (R := 4096) X (rowIn b a)) (row (R := 4096) Y c) := by
  rw [pay2_at, row_rowsBlock]
  exact Finset.sum_congr rfl fun i _ => by rw [normTr_ix]

/-! ## The diagonal -/

theorem off_pointOf (b : Fin 8) : k1_off1 (pointOf b) = ![0, 512 * b.val] := by
  have : ∀ b : Fin 8, k1_off1 (pointOf b) = ![0, 512 * b.val] := by decide
  exact this b

theorem square_at (b : Fin 8) (S : Vec Ideal S512x4096 .f32) (a e : Fin 512) :
    square (pointOf b) S (ix2 a e) = S (ix2 a (rowIn b e)) := by
  have h := off_pointOf b
  have h0 : k1_off1 (pointOf b) 0 = 0 := by rw [h]; rfl
  have h1 : k1_off1 (pointOf b) 1 = 512 * b.val := by rw [h]; rfl
  refine congrArg S (funext fun x => ?_)
  match x with
  | ⟨0, _⟩ => exact Fin.ext (show k1_off1 (pointOf b) 0 + 1 * a.val = a.val by omega)
  | ⟨1, _⟩ => exact Fin.ext (show k1_off1 (pointOf b) 1 + 1 * e.val = 512 * b.val + e.val by omega)

/-- The value that hides the diagonal. -/
def low : EReal := Ideal.ofBits .f32 0xFF61B1E6#32

/-- Two small numbers, compared as words. -/
theorem word_eq (a e : ℕ) (ha : a < 2 ^ 32) (he : e < 2 ^ 32) :
    IntOp.cmpi .eq (BitVec.ofNat 32 a) (BitVec.ofNat 32 e) = if a = e then 1#1 else 0#1 := by
  have h : (BitVec.ofNat 32 a = BitVec.ofNat 32 e) ↔ a = e := by
    rw [← BitVec.toNat_inj, BitVec.toNat_ofNat, BitVec.toNat_ofNat, Nat.mod_eq_of_lt ha, Nat.mod_eq_of_lt he]
  by_cases hae : a = e
  · subst hae; simp [IntOp.cmpi]
  · rw [if_neg hae]
    show BitVec.ofBool (BitVec.ofNat 32 a == BitVec.ofNat 32 e) = 0#1
    rw [beq_eq_false_iff_ne.mpr fun e' => hae (h.mp e')]
    rfl

/-- Where the mask of the diagonal is set. -/
theorem pay3_at (a e : Fin 512) : k1_pay3 (ix2 a e) = if a = e then 1#1 else 0#1 := by
  pointwise [k1_pay3]
  exact word_eq a.val e.val (by omega) (by omega) |>.trans (if_congr Fin.ext_iff.symm rfl rfl)

theorem pay5_at (S : Vec Ideal S512x512 .f32) (a e : Fin 512) :
    (k1_pay5 S (ix2 a e) : EReal) = if a = e then low else S (ix2 a e) := by
  pointwise [k1_pay5]
  rw [pay3_at]
  by_cases h : a = e
  · subst h; rw [if_pos rfl, if_pos rfl]; rfl
  · rw [if_neg h, if_neg h]; rfl

theorem pay4_at (S : Vec Ideal S512x512 .f32) (a : Fin 512) (z : Fin 1) : k1_pay4 S (ix2 a z) = S (ix2 a a) := by
  pointwise [k1_pay4]
  rw [Finset.sum_eq_single a]
  · rw [pay3_at, if_pos rfl]; rfl
  · intro e _ he
    rw [pay3_at, if_neg (Ne.symm he)]; rfl
  · intro h; exact absurd (Finset.mem_univ a) h

/-- The similarities with the diagonal hidden. -/
theorem hideDiag_at (b : Fin 8) (S : Vec Ideal S512x4096 .f32) (a : Fin 512) (c : Fin 4096) :
    (hideDiag (pointOf b) S (ix2 a c) : EReal) = if c = rowIn b a then low else S (ix2 a c) := by
  have h := off_pointOf b
  have h0 : k1_off1 (pointOf b) 0 = 0 := by rw [h]; rfl
  have h1 : k1_off1 (pointOf b) 1 = 512 * b.val := by rw [h]; rfl
  unfold hideDiag VecWindow.put
  by_cases hc : 512 * b.val ≤ c.val ∧ c.val < 512 * b.val + 512
  · have hin : ∀ x : Fin 2, k1_off1 (pointOf b) x ≤ ((ix2 a c : S512x4096.Idx) x).val
        ∧ ((ix2 a c : S512x4096.Idx) x).val < k1_off1 (pointOf b) x + S512x512.size x := by
      intro x
      match x with
      | ⟨0, _⟩ => exact ⟨by show k1_off1 (pointOf b) 0 ≤ a.val; omega, by show a.val < k1_off1 (pointOf b) 0 + 512; omega⟩
      | ⟨1, _⟩ => exact ⟨by show k1_off1 (pointOf b) 1 ≤ c.val; omega, by show c.val < k1_off1 (pointOf b) 1 + 512; omega⟩
    rw [dif_pos hin]
    have hl : Rect.unitLocal (s := S512x4096) (off := k1_off1 (pointOf b)) (size := S512x512.size) (ix2 a c) hin
        = (ix2 a ⟨c.val - 512 * b.val, by omega⟩ : S512x512.Idx) := by
      funext x
      match x with
      | ⟨0, _⟩ => exact Fin.ext (show a.val - k1_off1 (pointOf b) 0 = a.val by omega)
      | ⟨1, _⟩ => exact Fin.ext (show c.val - k1_off1 (pointOf b) 1 = c.val - 512 * b.val by omega)
    rw [hl, pay5_at, square_at]
    have hr : rowIn b ⟨c.val - 512 * b.val, by omega⟩ = c := Fin.ext (show 512 * b.val + (c.val - 512 * b.val) = c.val by omega)
    rw [hr]
    refine if_congr ?_ rfl rfl
    rw [Fin.ext_iff, Fin.ext_iff]
    show a.val = c.val - 512 * b.val ↔ c.val = 512 * b.val + a.val
    omega
  · rw [dif_neg, if_neg]
    · intro e
      have : c.val = 512 * b.val + a.val := congrArg Fin.val e
      omega
    · intro hin
      have := hin 1
      rw [h1] at this
      exact hc this

end Cert.Proof.Nearest

end
-- ==== Proof.Select.lean ====
/-
  The selection the kernel rests on, in lists. A list is split into classes; of each class only the two greatest entries are
  kept. If the third greatest of every class lies below the `k`-th greatest of the whole, the `k` greatest of the kept
  entries are the `k` greatest of all of them.
-/
module

public import Idealize.ShloMosaic.Lib.SortNet.TopList

@[expose] public section

namespace Cert.Proof.Nearest

open Idealize.ShloMosaic.SortNet

variable {α β : Type*} [LinearOrder α] [LinearOrder β]

/-- Among the `k` greatest, one finds only entries that reach `t`, as soon as `k` entries do. -/
theorem reaches_of_countP {k : ℕ} {l : List α} {t : α} (h : k ≤ l.countP fun x => decide (t ≤ x)) :
    ∀ x ∈ topList k l, t ≤ x := by
  intro x hx
  have hp : (l.filter (fun x => decide (t ≤ x)) ++ l.filter (fun x => !decide (t ≤ x))).Perm l := List.filter_append_perm _ l
  rw [← topList_perm hp, topList_append_of_le] at hx
  · simpa using (List.mem_filter.mp (mem_of_mem_topList hx)).2
  · rwa [← List.countP_eq_length_filter]
  · intro s hs a ha
    have h1 := (List.mem_filter.mp hs).2
    have h2 := (List.mem_filter.mp (mem_of_mem_topList ha)).2
    simp only [Bool.not_eq_true', decide_eq_false_iff_not, not_le, decide_eq_true_eq] at h1 h2
    exact (h1.trans_le h2).le

/-- A list holds its greatest entries and a rest. -/
theorem perm_topList_append (k : ℕ) (l : List α) : (topList k l ++ (l.insertionSort (· ≥ ·)).drop k).Perm l := by
  unfold topList
  rw [List.take_append_drop]
  exact List.perm_insertionSort (· ≥ ·) l

/-- What a list holds besides its two greatest entries is at most its third greatest. -/
theorem rest_le_third {l : List α} {x : α} (hx : x ∈ (l.insertionSort (· ≥ ·)).drop 2) (h3 : 2 < (topList 3 l).length) :
    x ≤ (topList 3 l)[2] := by
  have hs := List.pairwise_insertionSort (· ≥ ·) l
  obtain ⟨i, hi, rfl⟩ := List.getElem_of_mem hx
  rw [List.getElem_drop]
  simp only [topList, List.getElem_take]
  rcases Nat.eq_zero_or_pos i with rfl | hpos
  · exact le_refl _
  · exact (List.pairwise_iff_getElem.mp hs) 2 (2 + i) (by rw [List.length_drop] at hi; omega)
      (by rw [List.length_drop] at hi; omega) (by omega)

/-- The `k`-th greatest is reached by the `k` greatest. -/
theorem last_le {k : ℕ} {l : List α} (hk : k < (topList (k + 1) l).length) : ∀ x ∈ topList (k + 1) l, (topList (k + 1) l)[k] ≤ x := by
  intro x hx
  obtain ⟨i, hi, rfl⟩ := List.getElem_of_mem hx
  have hl : (topList (k + 1) l).length ≤ k + 1 := by rw [length_topList]; exact min_le_left _ _
  rcases Nat.lt_or_ge i k with h | h
  · exact (List.pairwise_iff_getElem.mp (pairwise_topList (k + 1) l)) i k hi hk h
  · have : i = k := by omega
    subst this; exact le_refl _

/-- The classes' two greatest and the classes' rests make up all the entries. -/
theorem perm_two_append_rest (cs : List (List α)) :
    (cs.flatMap (topList 2) ++ cs.flatMap fun l => (l.insertionSort (· ≥ ·)).drop 2).Perm cs.flatten := by
  induction cs with
  | nil => exact List.Perm.refl _
  | cons c cs ih =>
    simp only [List.flatMap_cons, List.flatten_cons]
    refine List.Perm.trans ?_ ((perm_topList_append 2 c).append ih)
    rw [List.append_assoc, List.append_assoc]
    refine List.Perm.append_left _ ?_
    rw [← List.append_assoc, ← List.append_assoc]
    exact List.Perm.append_right _ List.perm_append_comm

/-- TWO OF EACH CLASS SUFFICE: if the third greatest of every class lies below the `k + 1`-st greatest of all the entries, the
    `k + 1` greatest of the classes' two greatest are the `k + 1` greatest of all. -/
theorem topList_two_of_each (k : ℕ) (cs : List (List α)) (hk : k < (topList (k + 1) cs.flatten).length)
    (h : ∀ c ∈ cs, ∃ h3 : 2 < (topList 3 c).length, (topList 3 c)[2] < (topList (k + 1) cs.flatten)[k]) :
    topList (k + 1) (cs.flatMap (topList 2)) = topList (k + 1) cs.flatten := by
  set t := (topList (k + 1) cs.flatten)[k] with ht
  have hrest : ∀ x ∈ cs.flatMap (fun l => (l.insertionSort (· ≥ ·)).drop 2), x < t := by
    intro x hx
    obtain ⟨c, hc, hxc⟩ := List.mem_flatMap.mp hx
    obtain ⟨h3, hlt⟩ := h c hc
    exact (rest_le_third hxc h3).trans_lt hlt
  have hperm := perm_two_append_rest cs
  -- at least `k + 1` entries reach `t`, and all of them are kept
  have hcount : k + 1 ≤ (cs.flatMap (topList 2)).countP fun x => decide (t ≤ x) := by
    have h0 : (cs.flatMap fun l => (l.insertionSort (· ≥ ·)).drop 2).countP (fun x => decide (t ≤ x)) = 0 := by
      rw [List.countP_eq_zero]
      intro x hx
      simpa using hrest x hx
    have h1 : (cs.flatMap (topList 2)).countP (fun x => decide (t ≤ x)) = cs.flatten.countP fun x => decide (t ≤ x) := by
      rw [← hperm.countP_eq, List.countP_append, h0, Nat.add_zero]
    have h2 : (topList (k + 1) cs.flatten).countP (fun x => decide (t ≤ x)) = (topList (k + 1) cs.flatten).length := by
      rw [List.countP_eq_length]
      intro x hx
      simpa using last_le hk x hx
    rw [h1, ← (perm_topList_append (k + 1) cs.flatten).countP_eq, List.countP_append, h2]
    omega
  rw [← topList_perm hperm]
  refine (topList_append_of_le (k + 1) _ _ (hcount.trans List.countP_le_length) ?_).symm
  intro s hs a ha
  exact ((hrest s hs).trans_le (reaches_of_countP hcount a ha)).le

/-- The greatest entries of an image under a map that keeps the order are the images of the greatest entries. -/
theorem topList_map (k : ℕ) (f : α → β) (hf : Monotone f) (l : List α) : topList k (l.map f) = (topList k l).map f := by
  have hp : ((topList k l).map f ++ ((l.insertionSort (· ≥ ·)).drop k).map f).Perm (l.map f) := by
    rw [← List.map_append]; exact (perm_topList_append k l).map f
  have hpw : ((topList k l).map f).Pairwise (· ≥ ·) := List.pairwise_map.mpr ((pairwise_topList k l).imp fun h => hf h)
  have hs := List.pairwise_insertionSort (· ≥ ·) l
  rw [← List.take_append_drop k (l.insertionSort (· ≥ ·)), List.pairwise_append] at hs
  have e := eq_topList hp hpw fun a ha b hb => by
    obtain ⟨a', ha', rfl⟩ := List.mem_map.mp ha
    obtain ⟨b', hb', rfl⟩ := List.mem_map.mp hb
    exact hf (hs.2.2 a' ha' b' hb')
  rw [e, List.length_map, length_topList, ← List.length_map (f := f) (as := l), topList_min_length]

/-- Inserting entries one after another while keeping the two greatest leaves the two greatest. -/
theorem foldl_two (l : List α) (a b : α) (hab : b ≤ a) :
    [(l.foldl (fun p x => (max p.1 x, max p.2 (min p.1 x))) (a, b)).1, (l.foldl (fun p x => (max p.1 x, max p.2 (min p.1 x))) (a, b)).2]
      = topList 2 ([a, b] ++ l) := by
  induction l generalizing a b with
  | nil => exact (topList_eq_self (k := 2) (l := [a, b]) (by simpa using hab) (le_refl _)).symm
  | cons x l ih =>
    rw [List.foldl_cons, ih _ _ (max_le (hab.trans (le_max_left _ _)) ((min_le_left _ _).trans (le_max_left _ _)))]
    have e : [max a x, max b (min a x)] = topList 2 ([a, b] ++ [x]) := by
      refine (eq_topList (l := [a, b] ++ [x]) (r := [min b (min a x)]) ?_ ?_ ?_)
      · rcases le_total a x with h | h
        · rw [max_eq_right h, min_eq_left h, max_eq_right hab, min_eq_left hab]
          exact (List.perm_append_comm (l₁ := [x]) (l₂ := [a, b]))
        · rw [max_eq_left h, min_eq_right h]
          rcases le_total b x with h' | h'
          · rw [max_eq_right h', min_eq_left h']
            exact List.Perm.cons _ (List.Perm.swap _ _ _)
          · rw [max_eq_left h', min_eq_right h']
      · simpa using Or.inl hab
      · intro u hu v hv
        simp only [List.mem_cons, List.not_mem_nil, or_false] at hu hv
        subst hv
        rcases hu with rfl | rfl
        · exact (min_le_left _ _).trans (hab.trans (le_max_left _ _))
        · exact (min_le_left _ _).trans (le_max_left _ _)
    have e' : [max a x, max b (min a x)] = topList 2 [max a x, max b (min a x)] := by rw [e, topList_topList]
    rw [← topList_append_topList 2 [max a x, max b (min a x)] l, ← e', e, topList_append_topList]
    rw [List.append_assoc]; rfl

/-- One more entry lowers no place of a sorted list. -/
theorem le_orderedInsert (x : α) : ∀ (l : List α), l.Pairwise (· ≥ ·) → ∀ (i : ℕ) (h1 : i < l.length)
    (h2 : i < (l.orderedInsert (· ≥ ·) x).length), l[i] ≤ (l.orderedInsert (· ≥ ·) x)[i]
  | a :: l, hs, i, h1, h2 => by
    simp only [List.orderedInsert_cons] at h2 ⊢
    by_cases hx : x ≥ a
    · simp only [if_pos hx]
      match i with
      | 0 => exact hx
      | i + 1 =>
        rw [List.getElem_cons_succ, List.getElem_cons_succ]
        have h1' : i < l.length := Nat.lt_of_succ_lt_succ h1
        exact List.pairwise_iff_getElem.mp hs i (i + 1) (Nat.lt_of_succ_lt h1) h1 (Nat.lt_succ_self i)
    · simp only [if_neg hx] at h2 ⊢
      match i with
      | 0 => exact le_refl a
      | i + 1 => exact le_orderedInsert x l (List.pairwise_cons.mp hs).2 i (Nat.lt_of_succ_lt_succ h1) (Nat.lt_of_succ_lt_succ h2)

/-- The greatest of a list do not fall, place by place, when entries are added. -/
theorem topList_le_append (k : ℕ) (l r : List α) (i : ℕ) (h1 : i < (topList k l).length) (h2 : i < (topList k (l ++ r)).length) :
    (topList k l)[i] ≤ (topList k (l ++ r))[i] := by
  have key : ∀ (r : List α) (h1 : i < (l.insertionSort (· ≥ ·)).length) (h2 : i < ((r ++ l).insertionSort (· ≥ ·)).length),
      (l.insertionSort (· ≥ ·))[i] ≤ ((r ++ l).insertionSort (· ≥ ·))[i] := by
    intro r
    induction r with
    | nil => intro _ _; exact le_refl _
    | cons x r ih =>
      intro h1 h2
      have h3 : i < ((r ++ l).insertionSort (· ≥ ·)).length := by
        rw [List.length_insertionSort] at h1 ⊢
        rw [List.length_append]
        exact h1.trans_le (Nat.le_add_left _ _)
      have e : (x :: r ++ l).insertionSort (· ≥ ·) = ((r ++ l).insertionSort (· ≥ ·)).orderedInsert (· ≥ ·) x := by
        rw [List.cons_append, List.insertionSort_cons]
      simp only [e] at h2 ⊢
      exact (ih h1 h3).trans (le_orderedInsert x _ (List.pairwise_insertionSort (· ≥ ·) (r ++ l)) i h3 h2)
  have hp : topList k (l ++ r) = topList k (r ++ l) := topList_perm List.perm_append_comm
  simp only [hp] at h2 ⊢
  unfold topList at h1 h2 ⊢
  rw [List.getElem_take, List.getElem_take]
  exact key r _ _

end Cert.Proof.Nearest
-- ==== Proof.Candidates.lean ====
/-
  The candidates of a row, over the extended reals: the row's own similarity less each of the two greatest hidden-diagonal
  similarities of every class of columns.
-/
module

public import proofs.«01_k».proof.Proof.Similar
public import proofs.«01_k».proof.Proof.Select
public import proofs.«01_k».proof.Proof.Run

@[expose] public section

noncomputable section

namespace Cert.Proof.Nearest

open Cert.KernelIdeal Cert.KernelIdeal.Gen
open Idealize.ShloMosaic Idealize.ShloMosaic.SortNet

/-- Column `g` of class `c`. -/
abbrev colOf (c : Fin 128) (g : Fin 32) : Fin 4096 := ⟨128 * g.val + c.val, by omega⟩

/-- The entries of class `c`. -/
def classOf {α : Type} (f : Fin 4096 → α) (c : Fin 128) : List α := List.ofFn fun g : Fin 32 => f (colOf c g)

/-- The similarity of row `r` with target `c`. -/
def simAt (X Y : Vec Ideal S4096x2048 .f32) (r c : Fin 4096) : EReal := sim (row (R := 4096) X r) (row (R := 4096) Y c)

/-- The similarities of row `r`, its own replaced by the value given. -/
def hidden (h : EReal) (X Y : Vec Ideal S4096x2048 .f32) (r c : Fin 4096) : EReal := if c = r then h else simAt X Y r c

/-- The two greatest of each class, at a place. -/
theorem topTwo_at (S : Vec Ideal S512x4096 .f32) (a : Fin 512) (c : Fin 128) :
    ([(topTwo S).1 (ix2 a c), (topTwo S).2 (ix2 a c)] : List EReal)
      = topList 2 ([low, low] ++ classOf (fun k : Fin 4096 => (S (ix2 a k) : EReal)) c) := by
  rw [← foldl_two (classOf (fun k : Fin 4096 => (S (ix2 a k) : EReal)) c) low low (le_refl _)]
  have hf : ∀ (l : List (Fin 32)) (p : FVec Ideal S512x128 .f32 × FVec Ideal S512x128 .f32),
      (((l.foldl (fun p j => insertTwo p (colChunk S j)) p).1 (ix2 a c), (l.foldl (fun p j => insertTwo p (colChunk S j)) p).2 (ix2 a c)) : EReal × EReal)
        = (l.map fun g => (S (ix2 a (colOf c g)) : EReal)).foldl (fun p x => (max p.1 x, max p.2 (min p.1 x))) (p.1 (ix2 a c), p.2 (ix2 a c)) := by
    intro l
    induction l with
    | nil => intro p; rfl
    | cons g l ih =>
      intro p
      rw [List.foldl_cons, ih, List.map_cons, List.foldl_cons]
      have hS : (colChunk S g (ix2 a c) : EReal) = S (ix2 a (colOf c g)) := by
        refine congrArg S (funext fun x => ?_)
        match x with
        | ⟨0, _⟩ => exact Fin.ext (show 0 + 1 * a.val = a.val by omega)
        | ⟨1, _⟩ => exact Fin.ext (show 128 * g.val + 1 * c.val = 128 * g.val + c.val by omega)
      refine congrArg (fun q => List.foldl _ q _) ?_
      rw [← hS]
      rfl
  have h := hf (List.finRange 32) (k1_pay6, k1_pay6)
  have hl : (List.finRange 32).map (fun g => (S (ix2 a (colOf c g)) : EReal)) = classOf (fun k : Fin 4096 => (S (ix2 a k) : EReal)) c :=
    (List.ofFn_eq_map).symm
  rw [hl] at h
  exact congrArg (fun q : EReal × EReal => [q.1, q.2]) h

/-- A candidate: the diagonal entry less one of the two greatest of its class. -/
theorem candOf_at (d : FVec Ideal S512x1 .f32) (p : FVec Ideal S512x128 .f32 × FVec Ideal S512x128 .f32) (a : Fin 512) (k : Fin 256) :
    (candOf d p (ix2 a k) : EReal) = d (ix2 a 0)
      - (if h : k.val < 128 then p.1 (ix2 a ⟨k.val, h⟩) else p.2 (ix2 a ⟨k.val - 128, by omega⟩)) := by
  pointwise [candOf]

/-- A row's candidates, up to their order. -/
theorem cand_row (X Y : Vec Ideal S4096x2048 .f32) (r : Fin 4096) :
    (List.ofFn fun k : Fin 256 => (candOfArgs X Y (ix2 r k) : EReal)).Perm
      (((List.finRange 128).flatMap fun c => topList 2 ([low, low] ++ classOf (hidden low X Y r) c)).map fun v => simAt X Y r r - v) := by
  obtain ⟨b, a, rfl⟩ : ∃ (b : Fin 8) (a : Fin 512), r = rowIn b a :=
    ⟨⟨r.val / 512, by omega⟩, ⟨r.val % 512, by omega⟩, Fin.ext (show r.val = 512 * (r.val / 512) + r.val % 512 by omega)⟩
  set S : Vec Ideal S512x4096 .f32 := k1_pay2 (rowsBlock X b) (normTr Y) with hS
  have hsim : ∀ c : Fin 4096, (S (ix2 a c) : EReal) = simAt X Y (rowIn b a) c := fun c => sims_at X Y b a c
  have hhid : (fun c : Fin 4096 => (hideDiag (pointOf b) S (ix2 a c) : EReal)) = hidden low X Y (rowIn b a) := by
    funext c
    rw [hideDiag_at, hsim]
    rfl
  set P := topTwo (hideDiag (pointOf b) S) with hP
  have hk : ∀ k : Fin 256, (candOfArgs X Y (ix2 (rowIn b a) k) : EReal) = simAt X Y (rowIn b a) (rowIn b a)
      - (if h : k.val < 128 then P.1 (ix2 a ⟨k.val, h⟩) else P.2 (ix2 a ⟨k.val - 128, by omega⟩)) := by
    intro k
    unfold candOfArgs
    rw [cands_at X (normTr Y) b (ix2 a k) (ix2 (rowIn b a) k) rfl rfl]
    unfold candBlock
    rw [candOf_at, pay4_at, square_at]
    exact congrArg (fun z : EReal => z - _) (hsim (rowIn b a))
  have e : (List.ofFn fun k : Fin 256 => (candOfArgs X Y (ix2 (rowIn b a) k) : EReal))
      = ((List.finRange 128).flatMap (fun c => [(P.1 (ix2 a c) : EReal)]) ++ (List.finRange 128).flatMap fun c => [(P.2 (ix2 a c) : EReal)]).map
          fun v => simAt X Y (rowIn b a) (rowIn b a) - v := by
    rw [List.ofFn_add (m := 128) (n := 128), List.map_append, List.map_flatMap, List.map_flatMap, List.ofFn_eq_map, List.ofFn_eq_map, ← List.flatMap_pure_eq_map,
      ← List.flatMap_pure_eq_map]
    congr 1
    · refine List.flatMap_congr fun c _ => congrArg (fun v : EReal => [v]) ((hk _).trans ?_)
      exact congrArg (fun v : EReal => simAt X Y (rowIn b a) (rowIn b a) - v) (dif_pos c.isLt)
    · refine List.flatMap_congr fun c _ => congrArg (fun v : EReal => [v]) ((hk _).trans ?_)
      refine congrArg (fun v : EReal => simAt X Y (rowIn b a) (rowIn b a) - v) ((dif_neg (Nat.not_lt.mpr (Nat.le_add_right 128 c.val))).trans ?_)
      exact congrArg (fun z : Fin 128 => (P.2 (ix2 a z) : EReal)) (Fin.ext (Nat.add_sub_cancel_left 128 c.val))
  rw [e]
  refine List.Perm.map _ ((List.flatMap_append_perm (List.finRange 128) _ _).trans (List.Perm.of_eq ?_))
  refine List.flatMap_congr fun c _ => ?_
  rw [← hhid]
  exact topTwo_at (hideDiag (pointOf b) S) a c

end Cert.Proof.Nearest

end
-- ==== Proof.Sort.lean ====
/-
  The SparseCore's registers over the extended reals, as lists of lanes. A sort inserts the lanes one after another into a
  register of infinities; a chunk taken into the running register leaves the sixteen smallest of both.
-/
module

public import proofs.«01_k».proof.Proof.Row
public import proofs.«01_k».proof.Proof.Select
public import Idealize.ShloMosaic.Lib.SortNet.Fold
public import Idealize.ShloMosaic.Lib.Pointwise

@[expose] public section

noncomputable section

namespace Cert.Proof.Nearest

open Cert.KernelIdeal Cert.KernelIdeal.Gen
open Idealize.ShloMosaic Idealize.ShloMosaic.SortNet

/-! ## One insertion into a descending list -/

section insert

variable {α : Type*} [LinearOrder α]

/-- `x` inserted into a descending list whose predecessor is `c`: each entry becomes the greater of itself and the lesser of
    its predecessor and `x`; the length stays. -/
def insertInto (x : α) : α → List α → List α
  | _, [] => []
  | c, r :: rs => max r (min c x) :: insertInto x r rs

theorem length_insertInto (x : α) : ∀ (c : α) (l : List α), (insertInto x c l).length = l.length
  | _, [] => rfl
  | _, r :: rs => by rw [insertInto, List.length_cons, length_insertInto x r rs, List.length_cons]

/-- The insertion keeps all the entries but one, `l`, which is at most every entry kept; and the order stays. -/
theorem insertInto_spec (x : α) : ∀ (c : α) (L : List α), (c :: L).Pairwise (· ≥ ·) →
    ∃ l, (insertInto x c L ++ [l]).Perm (min c x :: L) ∧ l ≤ min c x ∧ (∀ y ∈ insertInto x c L, l ≤ y ∧ y ≤ c) ∧
      (insertInto x c L).Pairwise (· ≥ ·)
  | c, [], _ => ⟨min c x, List.Perm.refl _, le_refl _, by simp [insertInto], by simp [insertInto]⟩
  | c, r :: rs, h => by
    rw [List.pairwise_cons] at h
    have hrc : r ≤ c := h.1 r List.mem_cons_self
    obtain ⟨l, hp, hl, hb, hs⟩ := insertInto_spec x r rs h.2
    refine ⟨l, ?_, hl.trans (min_le_min_right x hrc), ?_, ?_⟩
    · rw [insertInto, List.cons_append]
      refine (List.Perm.cons _ hp).trans ?_
      rcases le_total x r with hx | hx
      · rw [min_eq_right hx, min_eq_right (hx.trans hrc), max_eq_left hx]
        exact List.Perm.swap _ _ _
      · rw [min_eq_left hx, max_eq_right (le_min hrc hx)]
    · intro y hy
      rw [insertInto, List.mem_cons] at hy
      rcases hy with rfl | hy
      · exact ⟨(hl.trans (min_le_left _ _)).trans (le_max_left _ _), max_le hrc (min_le_left _ _)⟩
      · exact ⟨(hb y hy).1, (hb y hy).2.trans hrc⟩
    · rw [insertInto, List.pairwise_cons]
      exact ⟨fun y hy => (hb y hy).2.trans (le_max_left _ _), hs⟩

/-- With nothing before the list, the insertion keeps the greatest entries. -/
theorem insertInto_top [OrderTop α] (x : α) (L : List α) (h : L.Pairwise (· ≥ ·)) :
    insertInto x ⊤ L = topList L.length (L ++ [x]) := by
  obtain ⟨l, hp, _, hb, hs⟩ := insertInto_spec x ⊤ L (List.pairwise_cons.mpr ⟨fun _ _ => le_top, h⟩)
  rw [min_eq_right le_top] at hp
  have e := eq_topList (hp.trans (List.perm_append_comm (l₁ := [x]) (l₂ := L))) hs fun a ha b hb' => by
    rw [List.mem_singleton] at hb'; subst hb'; exact (hb a ha).1
  rwa [length_insertInto] at e

/-- Entries inserted one after another into a list of least entries leave the greatest. -/
theorem foldl_insertInto [BoundedOrder α] (k : ℕ) (xs : List α) (hk : xs.length = k) :
    xs.foldl (fun L x => insertInto x ⊤ L) (List.replicate k ⊥) = topList k xs := by
  have gen : ∀ (ys : List α) (L : List α), L.length = k → L.Pairwise (· ≥ ·) →
      ys.foldl (fun L x => insertInto x ⊤ L) L = topList k (L ++ ys) := by
    intro ys
    induction ys with
    | nil => intro L hl hs; rw [List.append_nil, topList_eq_self hs hl.le]; rfl
    | cons y ys ih =>
      intro L hl hs
      rw [List.foldl_cons, insertInto_top y L hs, hl, ih _ ?_ (pairwise_topList _ _), topList_append_topList, List.append_assoc]
      · rfl
      · rw [length_topList, List.length_append, hl]; simp
  rw [gen xs _ List.length_replicate (List.pairwise_replicate.mpr (Or.inr (le_refl _))), topList_perm List.perm_append_comm,
    topList_append_of_le k xs _ hk.ge]
  intro s hs a _
  rw [(List.mem_replicate.mp hs).2]
  exact bot_le

end insert

/-! ## Registers as lists -/

/-- The lanes of a register. -/
def lanes (x : FVec Ideal S16 .f32) : List EReal := List.ofFn fun k : Fin 16 => x (ix1 k)

/-- The lanes of a register, in the order turned around: a smaller lane is a greater entry. -/
def lanesLow (x : FVec Ideal S16 .f32) : List ERealᵒᵈ := List.ofFn fun k : Fin 16 => OrderDual.toDual (x (ix1 k))

theorem lanesLow_eq (x : FVec Ideal S16 .f32) : lanesLow x = (lanes x).map OrderDual.toDual := by
  rw [lanes, lanesLow, List.map_ofFn]; rfl

theorem posInf : Ideal.ofBits .f32 0x7F800000#32 = ⊤ := by simp [Ideal.ofBits, Ideal.ieee]

theorem negInf : Ideal.ofBits .f32 0xFF800000#32 = ⊥ := by simp [Ideal.ofBits, Ideal.ieee]

/-- One trip of the descending sort, at a lane. -/
theorem pay21_at (run rest : FVec Ideal S16 .f32) (k : Fin 16) : k2_pay21 run rest (ix1 k)
    = max (run (ix1 k)) (min (if h : k.val < 1 then ⊤ else run (ix1 ⟨k.val - 1, by omega⟩)) (rest (ix1 0))) := by
  pointwise [k2_pay21]
  rw [posInf]

/-- One trip of the ascending sort, at a lane. -/
theorem pay25_at (run rest : FVec Ideal S16 .f32) (k : Fin 16) : k2_pay25 run rest (ix1 k)
    = min (run (ix1 k)) (max (if h : k.val < 1 then ⊥ else run (ix1 ⟨k.val - 1, by omega⟩)) (rest (ix1 0))) := by
  pointwise [k2_pay25]
  rw [negInf]

/-- The lanes still to insert, rotated by one. -/
theorem pay22_at (rest : FVec Ideal S16 .f32) (k : Fin 16) : k2_pay22 rest (ix1 k)
    = if h : k.val < 15 then rest (ix1 ⟨k.val + 1, by omega⟩) else rest (ix1 ⟨k.val - 15, by omega⟩) := by
  pointwise [k2_pay22]
  simp only [Nat.add_comm]

/-- Sixteen lanes, written out. -/
theorem lanes_eq (x : FVec Ideal S16 .f32) : lanes x = [x (ix1 0), x (ix1 1), x (ix1 2), x (ix1 3), x (ix1 4), x (ix1 5), x (ix1 6),
    x (ix1 7), x (ix1 8), x (ix1 9), x (ix1 10), x (ix1 11), x (ix1 12), x (ix1 13), x (ix1 14), x (ix1 15)] := rfl

theorem lanes_pay21 (run rest : FVec Ideal S16 .f32) : lanes (k2_pay21 run rest) = insertInto (rest (ix1 0)) ⊤ (lanes run) := by
  simp only [lanes_eq, pay21_at, insertInto]
  rfl

theorem lanesLow_pay25 (run rest : FVec Ideal S16 .f32) :
    lanesLow (k2_pay25 run rest) = insertInto (OrderDual.toDual (rest (ix1 0))) ⊤ (lanesLow run) := by
  simp only [lanesLow_eq, lanes_eq, pay25_at, insertInto, List.map]
  rfl

theorem lanes_pay22 (rest : FVec Ideal S16 .f32) {x : EReal} {xs : List EReal} (h : lanes rest = x :: xs) :
    rest (ix1 0) = x ∧ lanes (k2_pay22 rest) = xs ++ [x] := by
  rw [lanes_eq, List.cons.injEq] at h
  obtain ⟨rfl, rfl⟩ := h
  refine ⟨rfl, ?_⟩
  simp only [lanes_eq, pay22_at]
  rfl

theorem pay26_eq (rest : FVec Ideal S16 .f32) : k2_pay26 rest = k2_pay22 rest := rfl

/-- The trips of the descending sort insert the lanes in turn. -/
theorem desc_trips {ι : Type} (l : List ι) : ∀ (xs ys : List EReal) (run rest : FVec Ideal S16 .f32), xs.length = l.length →
    lanes rest = xs ++ ys →
    lanes (l.foldl (fun (p : FVec Ideal S16 .f32 × FVec Ideal S16 .f32) _ => (k2_pay21 p.1 p.2, k2_pay22 p.2)) (run, rest)).1
      = xs.foldl (fun L x => insertInto x ⊤ L) (lanes run) := by
  induction l with
  | nil => intro xs ys run rest hl _; rw [List.eq_nil_of_length_eq_zero hl]; rfl
  | cons a l ih =>
    intro xs ys run rest hl h
    obtain ⟨x, xs, rfl⟩ := List.exists_cons_of_length_eq_add_one hl
    obtain ⟨h0, h1⟩ := lanes_pay22 rest h
    rw [List.foldl_cons, List.foldl_cons, ih xs (ys ++ [x]) _ _ (by simpa using hl) (by rw [h1]; exact List.append_assoc xs ys [x])]
    exact congrArg (fun L => xs.foldl (fun L x => insertInto x ⊤ L) L) ((lanes_pay21 run rest).trans (by rw [h0]))

/-- The trips of the ascending sort insert the lanes in turn. -/
theorem asc_trips {ι : Type} (l : List ι) : ∀ (xs ys : List EReal) (run rest : FVec Ideal S16 .f32), xs.length = l.length →
    lanes rest = xs ++ ys →
    lanesLow (l.foldl (fun (p : FVec Ideal S16 .f32 × FVec Ideal S16 .f32) _ => (k2_pay25 p.1 p.2, k2_pay26 p.2)) (run, rest)).1
      = (xs.map OrderDual.toDual).foldl (fun L x => insertInto x ⊤ L) (lanesLow run) := by
  induction l with
  | nil => intro xs ys run rest hl _; rw [List.eq_nil_of_length_eq_zero hl]; rfl
  | cons a l ih =>
    intro xs ys run rest hl h
    obtain ⟨x, xs, rfl⟩ := List.exists_cons_of_length_eq_add_one hl
    obtain ⟨h0, h1⟩ := lanes_pay22 rest h
    rw [List.foldl_cons, List.map_cons, List.foldl_cons, ih xs (ys ++ [x]) _ _ (by simpa using hl)
      (by rw [pay26_eq, h1]; exact List.append_assoc xs ys [x])]
    exact congrArg (fun L => (xs.map OrderDual.toDual).foldl (fun L x => insertInto x ⊤ L) L) ((lanesLow_pay25 run rest).trans (by rw [h0]))

/-! ## The sorts and the chunk -/

theorem trips_two : k2_t2_loop.trips = 16 := by decide
theorem trips_three : k2_t3_loop.trips = 16 := by decide

theorem lanes_sortDesc (x : FVec Ideal S16 .f32) : lanes (sortDesc x) = topList 16 (lanes x) := by
  have h0 : lanes (k2_pay20 (F := Ideal)) = List.replicate 16 ⊥ := by
    rw [lanes_eq]
    simp only [k2_pay20, broadcast]
    exact congrArg (List.replicate 16) negInf
  unfold sortDesc
  rw [Scf.fold_eq, desc_trips _ (lanes x) [] _ _ (by rw [List.length_finRange, trips_two, lanes, List.length_ofFn])
    (List.append_nil _).symm, h0]
  exact foldl_insertInto 16 (lanes x) (List.length_ofFn)

theorem lanesLow_sortAsc (x : FVec Ideal S16 .f32) : lanesLow (sortAsc x) = topList 16 (lanesLow x) := by
  have h0 : lanesLow (k2_pay24 (F := Ideal)) = List.replicate 16 ⊥ := by
    rw [lanesLow_eq, lanes_eq]
    simp only [k2_pay24, broadcast]
    exact congrArg (fun y : EReal => List.replicate 16 (OrderDual.toDual y)) posInf
  unfold sortAsc
  rw [Scf.fold_eq, asc_trips _ (lanes x) [] _ _ (by rw [List.length_finRange, trips_three, lanes, List.length_ofFn])
    (List.append_nil _).symm, h0, ← lanesLow_eq]
  exact foldl_insertInto 16 (lanesLow x) (List.length_ofFn)

/-- A list of `k` entries or more is made of its own greatest entries, if it has just `k`. -/
theorem topList_perm_self {α : Type*} [LinearOrder α] {k : ℕ} {l : List α} (hk : l.length = k) : (topList k l).Perm l := by
  have := perm_topList_append k l
  rwa [List.drop_eq_nil_of_le (by rw [List.length_insertionSort, hk]), List.append_nil] at this

/-- A chunk taken into an ordered register leaves the sixteen smallest of both. -/
theorem lanesLow_takeChunk (run x : FVec Ideal S16 .f32) (h : (lanesLow run).Pairwise (· ≥ ·)) :
    lanesLow (takeChunk run x) = topList 16 (lanesLow run ++ lanesLow x) := by
  have hR : Antitone fun k : Fin (2 ^ 4) => OrderDual.toDual (run (ix1 k)) := by
    intro i j hij
    rcases hij.lt_or_eq with h' | rfl
    · exact List.pairwise_ofFn.mp h h'
    · exact le_refl _
  have hC : Monotone fun k : Fin (2 ^ 4) => OrderDual.toDual (sortDesc x (ix1 k)) := by
    have hs : (lanes (sortDesc x)).Pairwise (· ≥ ·) := by rw [lanes_sortDesc]; exact pairwise_topList _ _
    intro i j hij
    rcases hij.lt_or_eq with h' | rfl
    · exact List.pairwise_ofFn.mp hs h'
    · exact le_refl _
  obtain ⟨_, e⟩ := foldStep 4 _ _ hR hC
  obtain ⟨σ, hσ⟩ := Network.exists_perm (mergeDescNet 4) fun k : Fin (2 ^ 4) =>
    max (OrderDual.toDual (run (ix1 k))) (OrderDual.toDual (sortDesc x (ix1 k)))
  have hp : (lanesLow (minimumf run (sortDesc x))).Perm (topList 16 (lanesLow run ++ lanesLow (sortDesc x))) := by
    refine List.Perm.trans ?_ (List.Perm.of_eq e)
    rw [hσ]
    exact (Equiv.Perm.ofFn_comp_perm σ _).symm
  have hx : (lanesLow (sortDesc x)).Perm (lanesLow x) := by
    rw [lanesLow_eq, lanesLow_eq, lanes_sortDesc]
    exact (topList_perm_self (List.length_ofFn)).map _
  unfold takeChunk
  rw [lanesLow_sortAsc, topList_perm hp, topList_topList, topList_perm (hx.append_left _)]

/-- Chunks taken one after another into an ordered register leave the sixteen smallest of all of them. -/
theorem lanesLow_foldl (cs : List (FVec Ideal S16 .f32)) : ∀ (run : FVec Ideal S16 .f32) (l : List ERealᵒᵈ), lanesLow run = topList 16 l →
    lanesLow (cs.foldl takeChunk run) = topList 16 (l ++ cs.flatMap lanesLow) := by
  induction cs with
  | nil => intro run l h; simpa using h
  | cons c cs ih =>
    intro run l h
    rw [List.foldl_cons, ih (takeChunk run c) (l ++ lanesLow c), List.flatMap_cons, List.append_assoc]
    rw [lanesLow_takeChunk run c (by rw [h]; exact pairwise_topList _ _), h, topList_append_topList]

end Cert.Proof.Nearest

end
-- ==== Proof.RowList.lean ====
/-
  A row of the SparseCore kernel as a list: after its sixteen chunks the register holds the sixteen smallest of the row's 256
  candidates and of sixteen far values. And the sum of all the tasks' partial sums is the sum over all the rows' registers.
-/
module

public import proofs.«01_k».proof.Proof.Sort
public import proofs.«01_k».proof.Proof.Tile
public import Idealize.ShloMosaic.Lib.WordArith.Masks
public import Mathlib.Algebra.BigOperators.Fin

@[expose] public section

noncomputable section

namespace Cert.Proof.Nearest

open Cert.KernelIdeal Cert.KernelIdeal.Gen
open Idealize.ShloMosaic Idealize.ShloMosaic.SortNet

theorem trips_one : k2_t1_loop.trips = 128 := by decide

/-- The loop's counter is the row's number. -/
theorem counter (t : Fin k2_t1_loop.trips) : (Scf.iv 0#32 1#32 t).toNat = t.val :=
  WordArith.toNat_iv_zero_one _ (by have := lt_of_lt_of_eq t.isLt trips_one; omega)

/-- Row `t` of a tile. -/
abbrev rowOf (t : Fin k2_t1_loop.trips) : Fin 128 := ⟨t.val, lt_of_lt_of_eq t.isLt trips_one⟩

/-- A chunk's lanes are sixteen consecutive entries of the row. -/
theorem lanesLow_chunkAt (X : Vec Ideal S128x256 .f32) (o : Fin 2 → ℕ) (h : ∀ a, o a + S1x16.size a ≤ S128x256.size a)
    (r : Fin 128) (g : Fin 16) (h0 : o 0 = r.val) (h1 : o 1 = 16 * g.val) :
    lanesLow (chunkAt X o h) = List.ofFn fun k : Fin 16 => OrderDual.toDual (X (ix2 r ⟨16 * g.val + k.val, by omega⟩) : EReal) := by
  refine congrArg List.ofFn (funext fun k => congrArg OrderDual.toDual ?_)
  unfold chunkAt
  pointwise
  refine congrArg X (funext fun a => ?_)
  match a with
  | ⟨0, _⟩ => exact Fin.ext (show o 0 + 1 * 0 = r.val by omega)
  | ⟨1, _⟩ => exact Fin.ext (show o 1 + 1 * k.val = 16 * g.val + k.val by omega)

/-- The chunks of a row hold the row's entries. -/
theorem rowChunks_lanes (X : Vec Ideal S128x256 .f32) (t : Fin k2_t1_loop.trips) :
    (rowChunks X t).flatMap lanesLow = List.ofFn fun c : Fin 256 => OrderDual.toDual (X (ix2 (rowOf t) c) : EReal) := by
  have e := List.ofFn_mul' (m := 16) (n := 16) fun c : Fin 256 => OrderDual.toDual (X (ix2 (rowOf t) c) : EReal)
  refine Eq.trans ?_ e.symm
  have hc := counter t
  rw [List.flatMap_def]
  refine congrArg List.flatten ?_
  have hg : ∀ (o : Fin 2 → ℕ) (h : ∀ a, o a + S1x16.size a ≤ S128x256.size a) (g : Fin 16),
      o = ![(Scf.iv 0#32 1#32 t).toNat, 16 * g.val] → lanesLow (chunkAt X o h)
        = List.ofFn fun k : Fin 16 => OrderDual.toDual (X (ix2 (rowOf t) ⟨16 * g.val + k.val, by omega⟩) : EReal) := by
    intro o h g ho
    exact lanesLow_chunkAt X o h (rowOf t) g (by rw [ho]; exact hc) (by rw [ho]; rfl)
  simp only [rowChunks, List.map_cons, List.map_nil]
  rw [hg (k2_off2 t) (k2_off2_inb t) 0 rfl, hg (k2_off3 t) (k2_off3_inb t) 1 rfl, hg (k2_off4 t) (k2_off4_inb t) 2 rfl, hg (k2_off5 t) (k2_off5_inb t) 3 rfl, hg (k2_off6 t) (k2_off6_inb t) 4 rfl, hg (k2_off7 t) (k2_off7_inb t) 5 rfl, hg (k2_off8 t) (k2_off8_inb t) 6 rfl, hg (k2_off9 t) (k2_off9_inb t) 7 rfl, hg (k2_off10 t) (k2_off10_inb t) 8 rfl,
    hg (k2_off11 t) (k2_off11_inb t) 9 rfl, hg (k2_off12 t) (k2_off12_inb t) 10 rfl, hg (k2_off13 t) (k2_off13_inb t) 11 rfl, hg (k2_off14 t) (k2_off14_inb t) 12 rfl, hg (k2_off15 t) (k2_off15_inb t) 13 rfl, hg (k2_off16 t) (k2_off16_inb t) 14 rfl, hg (k2_off17 t) (k2_off17_inb t) 15 rfl]
  rfl

/-- The value of the far lanes. -/
def far : EReal := Ideal.ofBits .f32 0x7F61B1E6#32

theorem lanesLow_farReg : lanesLow farReg = List.replicate 16 (OrderDual.toDual far) := rfl

/-- The register of row `t` holds the sixteen smallest of the far values and the row. -/
theorem lanesLow_rowReg (X : Vec Ideal S128x256 .f32) (t : Fin k2_t1_loop.trips) : lanesLow (rowReg X t)
    = topList 16 (List.replicate 16 (OrderDual.toDual far) ++ List.ofFn fun c : Fin 256 => OrderDual.toDual (X (ix2 (rowOf t) c) : EReal)) := by
  unfold rowReg
  rw [lanesLow_foldl _ _ (List.replicate 16 (OrderDual.toDual far)), rowChunks_lanes]
  rw [lanesLow_farReg, topList_eq_self (List.pairwise_replicate.mpr (Or.inr (le_refl _))) (by rw [List.length_replicate])]

/-- A lane of the accumulator after `n` rows is the sum of the rows' lanes. -/
theorem accAt_at (X : Vec Ideal S128x256 .f32) (k : Fin 16) : ∀ n : ℕ, n ≤ k2_t1_loop.trips → accAt X n (ix1 k)
    = ∑ t ∈ Finset.range n, if h : t < k2_t1_loop.trips then (rowReg X ⟨t, h⟩ (ix1 k) : EReal) else 0
  | 0, _ => by
    simp only [accAt, Finset.range_zero, Finset.sum_empty]
    pointwise [k2_pay1]
  | n + 1, hn => by
    rw [Finset.sum_range_succ, ← accAt_at X k n (by omega), accAt, dif_pos (by omega), dif_pos (by omega)]
    rfl

/-- The entries of a task's tile. -/
theorem tileIn_at (C : S4096x256.Idx → Elt Ideal .f32) (w : Fin 32) (r : Fin 128) (c : Fin 256) :
    tileIn C (coordsOf w) (ix2 r c) = C (ix2 ⟨128 * w.val + r.val, by omega⟩ c) := by
  refine congrArg C (funext fun a => ?_)
  have e : k2_off1 (coordsOf w) = ![128 * w.val, 0] := by
    rw [k2_off1_eq]
    have h0 : (coordsOf w 0).val = w.val % 2 := rfl
    have h1 : (coordsOf w 1).val = w.val / 2 := rfl
    rw [h0, h1]
    funext a
    match a with
    | ⟨0, _⟩ => simp; omega
    | ⟨1, _⟩ => simp
  have e0 : k2_off1 (coordsOf w) 0 = 128 * w.val := by rw [e]; rfl
  have e1 : k2_off1 (coordsOf w) 1 = 0 := by rw [e]; rfl
  match a with
  | ⟨0, _⟩ => exact Fin.ext (show k2_off1 (coordsOf w) 0 + 1 * r.val = 128 * w.val + r.val by omega)
  | ⟨1, _⟩ => exact Fin.ext (show k2_off1 (coordsOf w) 1 + 1 * c.val = c.val by omega)

/-- The sixteen smallest of a row of candidates, as the register holds them. -/
def rowLow (C : S4096x256.Idx → EReal) (r : Fin 4096) : List ERealᵒᵈ :=
  topList 16 (List.replicate 16 (OrderDual.toDual far) ++ List.ofFn fun c : Fin 256 => OrderDual.toDual (C (ix2 r c)))

/-- THE PARTIAL SUMS ADD UP to the sum over all rows of the row's register. -/
theorem sum_partials (C : S4096x256.Idx → Elt Ideal .f32) :
    ∑ j : S32x16.Idx, (partials C j : EReal) = ∑ r : Fin 4096, ((rowLow C r).map OrderDual.ofDual).sum := by
  have hrow : ∀ (w : Fin 32) (t : Fin k2_t1_loop.trips), ∑ k : Fin 16, (rowReg (tileIn C (coordsOf w)) t (ix1 k) : EReal)
      = ((rowLow C ⟨128 * w.val + t.val, by have := lt_of_lt_of_eq t.isLt trips_one; omega⟩).map OrderDual.ofDual).sum := by
    intro w t
    have e : rowLow C ⟨128 * w.val + t.val, by have := lt_of_lt_of_eq t.isLt trips_one; omega⟩
        = lanesLow (rowReg (tileIn C (coordsOf w)) t) := by
      rw [lanesLow_rowReg]
      simp only [tileIn_at]
      rfl
    rw [e, lanesLow, List.map_ofFn, List.sum_ofFn]
    rfl
  rw [sum_idx2]
  have hw : ∀ w : Fin 32, ∑ k : Fin 16, (partials C (ix2 w k) : EReal)
      = ∑ t : Fin 128, ((rowLow C ⟨128 * w.val + t.val, by omega⟩).map OrderDual.ofDual).sum := by
    intro w
    have hk : ∀ k : Fin 16, (partials C (ix2 w k) : EReal)
        = ∑ t : Fin k2_t1_loop.trips, (rowReg (tileIn C (coordsOf w)) t (ix1 k) : EReal) := by
      intro k
      have h := accAt_at (tileIn C (coordsOf w)) k k2_t1_loop.trips (le_refl _)
      refine Eq.trans ?_ (h.trans ?_)
      · refine congrArg (accAt (tileIn C (coordsOf w)) k2_t1_loop.trips) (funext fun a => ?_)
        match a with
        | ⟨0, _⟩ => rfl
      · rw [Finset.sum_range]
        exact Finset.sum_congr rfl fun t _ => dif_pos t.isLt
    rw [Finset.sum_congr rfl fun k _ => hk k, Finset.sum_comm, Finset.sum_congr rfl fun t _ => hrow w t]
    exact Fintype.sum_equiv (finCongr trips_one) _ _ fun t => rfl
  rw [Finset.sum_congr rfl fun w _ => hw w]
  rw [← Fintype.sum_prod_type' (f := fun (w : Fin 32) (t : Fin 128) =>
    ((rowLow C ⟨128 * w.val + t.val, by omega⟩).map OrderDual.ofDual).sum)]
  refine Fintype.sum_equiv finProdFinEquiv _ _ fun p => ?_
  refine congrArg (fun r => ((rowLow C r).map OrderDual.ofDual).sum) (Fin.ext ?_)
  simp [finProdFinEquiv]
  omega

end Cert.Proof.Nearest

end
-- ==== Proof.KernelRow.lean ====
/-
  The kernel's sum of a row: the sixteen least distances it keeps are the row's own similarity less the sixteen greatest
  among the two greatest hidden-diagonal similarities of each class. Those are the row's sixteen greatest where no class
  holds more than two of them, and never exceed them.
-/
module

public import proofs.«01_k».proof.Proof.Candidates
public import proofs.«01_k».proof.Proof.RowList

@[expose] public section

noncomputable section

namespace Cert.Proof.Nearest

open Cert.KernelIdeal Cert.KernelIdeal.Gen
open Idealize.ShloMosaic Idealize.ShloMosaic.SortNet

/-- The least finite number of the format: what the reference hides the diagonal by. -/
def lowest : EReal := Ideal.ofBits .f32 0xFF7FFFFF#32

theorem low_eq : low = ((-(14791142 * 2 ^ 104) : ℝ) : EReal) := by
  simp [low, Ideal.ofBits, Ideal.ieee, -EReal.coe_mul]

theorem lowest_eq : lowest = ((-(16777215 * 2 ^ 104) : ℝ) : EReal) := by
  simp [lowest, Ideal.ofBits, Ideal.ieee, -EReal.coe_mul]

theorem far_eq : far = ((14791142 * 2 ^ 104 : ℝ) : EReal) := by
  simp [far, Ideal.ofBits, Ideal.ieee, -EReal.coe_mul]

theorem neg_one_eq : (-1 : EReal) = ((-1 : ℝ) : EReal) := by rw [EReal.coe_neg, EReal.coe_one]

theorem neg_one_le {x : ℝ} (h : -1 ≤ x) : (-1 : EReal) ≤ x := by rw [neg_one_eq]; exact EReal.coe_le_coe_iff.mpr h

theorem low_le : low ≤ -1 := by
  rw [low_eq, neg_one_eq]; exact EReal.coe_le_coe_iff.mpr (by norm_num)

theorem lowest_le : lowest ≤ low := by
  rw [low_eq, lowest_eq]; exact_mod_cast (by norm_num : (-(16777215 * 2 ^ 104) : ℝ) ≤ -(14791142 * 2 ^ 104))

theorem le_far {x : ℝ} (h : x ≤ 2) : (x : EReal) ≤ far := by
  rw [far_eq]; exact_mod_cast h.trans (by norm_num : (2 : ℝ) ≤ 14791142 * 2 ^ 104)

variable (X Y : Vec Ideal S4096x2048 .f32)

theorem simAt_real (r c : Fin 4096) : ∃ s : ℝ, simAt X Y r c = s ∧ -1 ≤ s ∧ s ≤ 1 := sim_real _ _

theorem neg_one_le_simAt (r c : Fin 4096) : -1 ≤ simAt X Y r c := by
  obtain ⟨s, h, h1, -⟩ := simAt_real X Y r c
  rw [h]; exact neg_one_le h1

/-- The kernel's hidden value is the greater of the reference's and the kernel's sentinel. -/
theorem hidden_low (r c : Fin 4096) : hidden low X Y r c = max (hidden lowest X Y r c) low := by
  unfold hidden
  split
  · exact (max_eq_right lowest_le).symm
  · exact (max_eq_left (low_le.trans (neg_one_le_simAt X Y r c))).symm

/-- The row's sixteen greatest hidden-diagonal similarities. -/
def best (r : Fin 4096) : List EReal := topList 16 (List.ofFn (hidden lowest X Y r))

/-- No class holds more than two of the row's sixteen greatest. -/
def TwoPerClass (r : Fin 4096) : Prop :=
  ∀ c : Fin 128, ∃ (h3 : 2 < (topList 3 (classOf (hidden lowest X Y r) c)).length) (h16 : 15 < (best X Y r).length),
    (topList 3 (classOf (hidden lowest X Y r) c))[2] < (best X Y r)[15]

theorem length_best (r : Fin 4096) : (best X Y r).length = 16 := by
  unfold best
  rw [length_topList, List.length_ofFn]
  rfl

/-- A list with at most one entry below minus one holds all its other entries at minus one or above. -/
theorem countP_ofFn {n : ℕ} (f : Fin n → EReal) (g : Fin n) (h : ∀ k, k ≠ g → -1 ≤ f k) :
    n - 1 ≤ (List.ofFn f).countP fun x => decide (-1 ≤ x) := by
  rw [List.ofFn_eq_map, List.countP_map, (List.perm_cons_erase (List.mem_finRange g)).countP_eq, List.countP_cons]
  have hall : ∀ k ∈ (List.finRange n).erase g, ((fun x : EReal => decide (-1 ≤ x)) ∘ f) k = true := by
    intro k hk
    have hne : k ≠ g := fun e => by
      rw [e] at hk
      exact (List.nodup_finRange n).not_mem_erase hk
    simpa only [Function.comp_apply, decide_eq_true_eq] using h k hne
  rw [List.countP_eq_length.mpr hall, List.length_erase_of_mem (List.mem_finRange g), List.length_finRange]
  exact Nat.le_add_right _ _

/-- An entry of a hidden-diagonal row that is minus one or above is a similarity: a real number of at most one. -/
theorem hidden_real (r c : Fin 4096) (h : -1 ≤ hidden lowest X Y r c) :
    ∃ x : ℝ, hidden lowest X Y r c = x ∧ -1 ≤ x ∧ x ≤ 1 := by
  unfold hidden at h ⊢
  split
  · rename_i hc
    rw [if_pos hc, lowest_eq] at h
    rw [neg_one_eq, EReal.coe_le_coe_iff] at h
    exact absurd h (by norm_num)
  · exact simAt_real X Y r c

theorem hidden_ge {r c : Fin 4096} (h : c ≠ r) : -1 ≤ hidden lowest X Y r c := by
  unfold hidden
  rw [if_neg h]
  exact neg_one_le_simAt X Y r c

/-- Each is a similarity. -/
theorem best_real (r : Fin 4096) : ∀ v ∈ best X Y r, ∃ x : ℝ, v = x ∧ -1 ≤ x ∧ x ≤ 1 := by
  intro v hv
  have hge : -1 ≤ v := reaches_of_countP (le_trans (by norm_num) (countP_ofFn (hidden lowest X Y r) r fun c hc => hidden_ge X Y hc)) v hv
  obtain ⟨c, rfl⟩ := (List.mem_ofFn' _ _).mp (mem_of_mem_topList hv)
  exact hidden_real X Y r c hge

/-- The classes together are the row. -/
theorem classes_perm {α : Type} (f : Fin 4096 → α) : ((List.finRange 128).map (classOf f)).flatten.Perm (List.ofFn f) := by
  have hp : (((List.finRange 128) ×ˢ (List.finRange 32)).map fun p => colOf p.1 p.2).Perm (List.finRange 4096) := by
    refine (List.perm_ext_iff_of_nodup (List.Nodup.map ?_ ((List.nodup_finRange 128).product (List.nodup_finRange 32))) (List.nodup_finRange 4096)).mpr fun a => ?_
    · rintro ⟨c, g⟩ ⟨c', g'⟩ h
      have h : 128 * g.val + c.val = 128 * g'.val + c'.val := congrArg Fin.val h
      exact Prod.ext (Fin.ext (show c.val = c'.val by omega)) (Fin.ext (show g.val = g'.val by omega))
    · refine ⟨fun _ => List.mem_finRange a, fun _ => List.mem_map.mpr ⟨(⟨a.val % 128, by omega⟩, ⟨a.val / 128, by omega⟩), ?_, ?_⟩⟩
      · exact List.mem_product.mpr ⟨List.mem_finRange _, List.mem_finRange _⟩
      · exact Fin.ext (show 128 * (a.val / 128) + a.val % 128 = a.val by omega)
  refine List.Perm.trans (List.Perm.of_eq ?_) ((hp.map f).trans (List.Perm.of_eq List.ofFn_eq_map.symm))
  rw [List.map_map, ← List.flatMap_def]
  show _ = List.map _ ((List.finRange 128).flatMap fun c => (List.finRange 32).map (Prod.mk c))
  rw [List.map_flatMap]
  refine List.flatMap_congr fun c _ => ?_
  rw [List.map_map]
  exact List.ofFn_eq_map

/-- The row's classes, one after the other. -/
abbrev classes (r : Fin 4096) : List (List EReal) := (List.finRange 128).map (classOf (hidden lowest X Y r))

/-- The sixteen greatest among the two greatest of each class. -/
def kept (r : Fin 4096) : List EReal := topList 16 ((classes X Y r).flatMap (topList 2))

theorem length_two (r : Fin 4096) (l : List EReal) (h : l ∈ classes X Y r) : (topList 2 l).length = 2 := by
  obtain ⟨c, -, rfl⟩ := List.mem_map.mp h
  rw [length_topList]
  unfold classOf
  rw [List.length_ofFn]
  rfl

theorem length_twos (r : Fin 4096) : ((classes X Y r).flatMap (topList 2)).length = 256 := by
  rw [List.length_flatMap, List.map_congr_left (length_two X Y r), List.map_const', List.sum_replicate, List.length_map, List.length_finRange]
  rfl

theorem length_kept (r : Fin 4096) : (kept X Y r).length = 16 := by
  unfold kept
  rw [length_topList, length_twos]
  rfl

/-- Each of them is a similarity. -/
theorem kept_real (r : Fin 4096) : ∀ v ∈ kept X Y r, ∃ x : ℝ, v = x ∧ -1 ≤ x ∧ x ≤ 1 := by
  intro v hv
  obtain ⟨l, hl, hvl⟩ := List.mem_flatMap.mp (mem_of_mem_topList hv)
  obtain ⟨c, -, rfl⟩ := List.mem_map.mp hl
  have hge : -1 ≤ v := by
    refine reaches_of_countP (le_trans (by norm_num) (countP_ofFn (fun g : Fin 32 => hidden lowest X Y r (colOf c g))
      ⟨r.val / 128, by omega⟩ fun g hg => hidden_ge X Y fun e => hg (Fin.ext ?_))) v hvl
    have e : 128 * g.val + c.val = r.val := congrArg Fin.val e
    show g.val = r.val / 128
    omega
  obtain ⟨g, rfl⟩ := (List.mem_ofFn' _ _).mp (mem_of_mem_topList hvl)
  exact hidden_real X Y r (colOf c g) hge

/-- They are the row's sixteen greatest where no class holds more than two of those. -/
theorem kept_eq_best (r : Fin 4096) (h : TwoPerClass X Y r) : kept X Y r = best X Y r := by
  have hb : topList 16 (classes X Y r).flatten = best X Y r := topList_perm (classes_perm _)
  unfold kept
  rw [← hb]
  refine topList_two_of_each 15 _ ?_ ?_
  · rw [hb, length_best]; norm_num
  · intro l hl
    obtain ⟨c, -, rfl⟩ := List.mem_map.mp hl
    obtain ⟨h3, h16, hlt⟩ := h c
    refine ⟨h3, ?_⟩
    simpa only [hb] using hlt

/-- In any case none exceeds the row's greatest in its place. -/
theorem kept_le_best (r : Fin 4096) (i : ℕ) (h1 : i < (kept X Y r).length) (h2 : i < (best X Y r).length) : (kept X Y r)[i] ≤ (best X Y r)[i] := by
  have hb : topList 16 ((classes X Y r).flatMap (topList 2) ++ (classes X Y r).flatMap fun l => (l.insertionSort (· ≥ ·)).drop 2) = best X Y r :=
    topList_perm ((perm_two_append_rest _).trans (classes_perm _))
  have h := topList_le_append 16 ((classes X Y r).flatMap (topList 2)) ((classes X Y r).flatMap fun l => (l.insertionSort (· ≥ ·)).drop 2) i h1
    (by rw [hb]; exact h2)
  simp only [hb] at h
  exact h

/-- The row's own similarity less a similarity raised to the sentinel, in the order of distances. -/
def gap (s v : EReal) : ERealᵒᵈ := OrderDual.toDual (s - max v low)

theorem gap_monotone (s : EReal) : Monotone (gap s) := fun _ _ h =>
  OrderDual.toDual_le_toDual.mpr (EReal.sub_le_sub (le_refl s) (max_le_max h (le_refl low)))

/-- The kernel's two greatest of a class are the reference's, raised to the sentinel. -/
theorem class_two (r : Fin 4096) (c : Fin 128) :
    topList 2 ([low, low] ++ classOf (hidden low X Y r) c) = (topList 2 (classOf (hidden lowest X Y r) c)).map fun v => max v low := by
  have hm : classOf (hidden low X Y r) c = (classOf (hidden lowest X Y r) c).map fun v => max v low := by
    unfold classOf
    rw [List.map_ofFn]
    exact congrArg List.ofFn (funext fun g => hidden_low X Y r (colOf c g))
  have hmono : Monotone fun v : EReal => max v low := fun _ _ h => max_le_max h (le_refl low)
  rw [topList_perm (List.perm_append_comm), hm, topList_append_of_le, topList_map 2 _ hmono]
  · rw [List.length_map]; unfold classOf; rw [List.length_ofFn]; norm_num
  · intro a ha b hb
    rw [topList_map 2 _ hmono] at hb
    obtain ⟨v, -, rfl⟩ := List.mem_map.mp hb
    have : a = low := by simpa using ha
    rw [this]
    exact le_max_right v low

/-- The sixteen the kernel keeps of a row. -/
theorem rowLow_eq (r : Fin 4096) : rowLow (candOfArgs X Y) r = (kept X Y r).map (gap (simAt X Y r r)) := by
  have hc : (List.ofFn fun k : Fin 256 => OrderDual.toDual (candOfArgs X Y (ix2 r k) : EReal)).Perm
      (((classes X Y r).flatMap (topList 2)).map (gap (simAt X Y r r))) := by
    have hp := (cand_row X Y r).map OrderDual.toDual
    rw [List.map_ofFn] at hp
    refine hp.trans (List.Perm.of_eq ?_)
    rw [List.map_map, List.map_flatMap, List.flatMap_map, List.map_flatMap]
    refine List.flatMap_congr fun c _ => ?_
    rw [class_two, List.map_map]
    rfl
  have htop : topList 16 (((classes X Y r).flatMap (topList 2)).map (gap (simAt X Y r r))) = (kept X Y r).map (gap (simAt X Y r r)) :=
    topList_map 16 _ (gap_monotone _) _
  unfold rowLow
  rw [topList_perm (List.perm_append_comm), topList_perm (hc.append_right _), topList_append_of_le, htop]
  · rw [← hc.length_eq, List.length_ofFn]; norm_num
  · intro a ha b hb
    rw [htop] at hb
    obtain ⟨v, hv, rfl⟩ := List.mem_map.mp hb
    rw [List.eq_of_mem_replicate ha]
    obtain ⟨x, rfl, hx, -⟩ := kept_real X Y r v hv
    obtain ⟨s, hs, -, hs1⟩ := simAt_real X Y r r
    refine OrderDual.toDual_le_toDual.mpr ?_
    rw [hs, max_eq_left (low_le.trans (neg_one_le hx)), ← EReal.coe_sub]
    exact le_far (by linarith)

/-- Their sum. -/
theorem rowLow_sum (r : Fin 4096) :
    ((rowLow (candOfArgs X Y) r).map OrderDual.ofDual).sum = ((kept X Y r).map fun v => simAt X Y r r - v).sum := by
  rw [rowLow_eq X Y r, List.map_map]
  refine congrArg List.sum (List.map_congr_left fun v hv => ?_)
  obtain ⟨x, rfl, hx, -⟩ := kept_real X Y r v hv
  show simAt X Y r r - max (x : EReal) low = _
  rw [max_eq_left (low_le.trans (neg_one_le hx))]

end Cert.Proof.Nearest

end
-- ==== Proof.Precondition.lean ====
/-
  The precondition, read over the extended reals: no class of columns holds more than two of a row's sixteen greatest
  hidden-diagonal similarities.
-/
module

public import proofs.«01_k».proof.Pre_two_per_class
public import proofs.«01_k».proof.Proof.TopK
public import proofs.«01_k».proof.Proof.KernelRow

@[expose] public section

noncomputable section

namespace Cert.Proof.Nearest

open Idealize.ShloMosaic Idealize.ShloMosaic.SortNet
open Cert.Pre_two_per_class Cert.Pre_two_per_class.Facts

/-- The shapes the precondition is written over fit together. -/
instance preFacts : Cert.Pre_two_per_class.Facts where
  reducesTo_S4096x2048_S4096_d1 := by decide
  h_S_ := by decide
  bcast_S4096_S4096x1_0 := by decide
  bcast_S_S4096x1 := by decide
  bcast_S4096x1_S4096x2048_0_1 := by decide
  transposes_S4096x2048_S2048x4096_1_0 := by decide
  bcast_S_S4096x4096 := by decide
  sliceFits_S4096x4096_S4096x16 := by decide
  shapeCasts_S4096x4096_S4096x32x128 := by decide
  transposes_S4096x32x128_S4096x128x32_0_2_1 := by decide
  sliceFits_S4096x128x32_S4096x128x3 := by decide
  slices_S4096x128x3_S4096x128x1_0_0_2 := by decide
  shapeCasts_S4096x128x1_S4096x128 := by decide
  slices_S4096x16_S4096x1_0_15 := by decide
  bcast_S4096x1_S4096x128_0_1 := by decide
  dot_S4096x2048_S2048x4096_S4096x4096_1_0_0_1_n_n_wf := by decide

/-- The precondition's rows divided by their norms. -/
def preUnit (X : FVec Ideal S4096x2048 .f32) : FVec Ideal S4096x2048 .f32 :=
  Host.divf X (broadcastInDim S4096x2048 ![0, 1] bcast_S4096x1_S4096x2048_0_1
    (maximumf (fn_norm X) (broadcastInDim S4096x1 ![] bcast_S_S4096x1 (constant S_ .f32 0x2B8CBCCC#32))))

theorem preUnit_at (X : FVec Ideal S4096x2048 .f32) (r : Fin 4096) (i : Fin 2048) :
    preUnit X (ix2 r i) = unitRow (row (R := 4096) X r) i := by
  pointwise [preUnit, fn_norm]
  rfl

/-- Its products of all the rows. -/
def preSims (X Y : FVec Ideal S4096x2048 .f32) : FVec Ideal S4096x4096 .f32 :=
  Host.dotGeneral dot_S4096x2048_S2048x4096_S4096x4096_1_0_0_1_n_n none (preUnit X)
    (transpose S2048x4096 [1, 0] (preUnit Y) transposes_S4096x2048_S2048x4096_1_0)

theorem preSims_at (X Y : FVec Ideal S4096x2048 .f32) (r c : Fin 4096) : preSims X Y (ix2 r c) = simAt X Y r c := by
  pointwise [preSims]
  exact Finset.sum_congr rfl fun i _ => congrArg₂ (· * ·) (preUnit_at X r i) (preUnit_at Y c i)

/-- The same with the diagonal hidden. -/
def preHidden (X Y : FVec Ideal S4096x2048 .f32) : FVec Ideal S4096x4096 .f32 :=
  fn_where (cmpi .eq (addi (iotaInDim S4096x4096 32 0) (broadcastInDim S4096x4096 ![] bcast_S_S4096x4096 (constantI S_ 32 0#32))) (iotaInDim S4096x4096 32 1))
    (constant S_ .f32 0xFF7FFFFF#32) (preSims X Y)

theorem preHidden_at (X Y : FVec Ideal S4096x2048 .f32) (r c : Fin 4096) : preHidden X Y (ix2 r c) = hidden lowest X Y r c := by
  pointwise [preHidden, fn_where]
  have hw : IntOp.addi (BitVec.ofNat 32 r.val) 0#32 = BitVec.ofNat 32 r.val := BitVec.add_zero _
  rw [preSims_at, hw, word_eq _ _ (by omega) (by omega)]
  unfold hidden Scalar.select
  by_cases h : c = r
  · subst h
    rw [if_pos rfl, if_pos rfl, if_pos (by decide)]
    rfl
  · rw [if_neg h, if_neg (fun e : r.val = c.val => h (Fin.ext e.symm)), if_neg (by decide)]

/-- Its sixteen greatest of each row. -/
def preBest (X Y : FVec Ideal S4096x2048 .f32) : FVec Ideal S4096x16 .f32 :=
  (Host.topK S4096x16 1 (FloatOps.cmpfTotal .gt) (preHidden X Y) sliceFits_S4096x4096_S4096x16).1

theorem preBest_row (X Y : FVec Ideal S4096x2048 .f32) (r : Fin 4096) :
    (List.ofFn fun k : Fin 16 => (preBest X Y (ix2 r k) : EReal)) = best X Y r := by
  refine (topK_rows (m := 16) (by norm_num) (preHidden X Y) sliceFits_S4096x4096_S4096x16 r).trans ?_
  exact congrArg (fun f : Fin 4096 → EReal => topList 16 (List.ofFn f)) (funext fun c => preHidden_at X Y r c)

/-- The similarities by class. -/
def preClass (X Y : FVec Ideal S4096x2048 .f32) : FVec Ideal S4096x128x32 .f32 :=
  transpose S4096x128x32 [0, 2, 1] (shapeCast S4096x32x128 (preHidden X Y) shapeCasts_S4096x4096_S4096x32x128) transposes_S4096x32x128_S4096x128x32_0_2_1

theorem preClass_at (X Y : FVec Ideal S4096x2048 .f32) (r : Fin 4096) (c : Fin 128) (g : Fin 32) :
    preClass X Y (ix3 r c g) = hidden lowest X Y r (colOf c g) := by
  rw [← preHidden_at]
  pointwise [preClass]
  exact congrArg (fun q : Fin 4096 => preHidden X Y (ix2 r q)) (Fin.ext (show g.val * 128 + c.val = 128 * g.val + c.val by omega))

/-- Its three greatest of each class. -/
def preThree (X Y : FVec Ideal S4096x2048 .f32) : FVec Ideal S4096x128x3 .f32 :=
  (Host.topK S4096x128x3 2 (FloatOps.cmpfTotal .gt) (preClass X Y) sliceFits_S4096x128x32_S4096x128x3).1

theorem preThree_row (X Y : FVec Ideal S4096x2048 .f32) (r : Fin 4096) (c : Fin 128) :
    (List.ofFn fun k : Fin 3 => (preThree X Y (ix3 r c k) : EReal)) = topList 3 (classOf (hidden lowest X Y r) c) := by
  refine (topK_last (m := 3) (by norm_num) (preClass X Y) sliceFits_S4096x128x32_S4096x128x3 r c).trans ?_
  exact congrArg (fun f : Fin 32 → EReal => topList 3 (List.ofFn f)) (funext fun g => preClass_at X Y r c g)

theorem fn_at (X Y : FVec Ideal S4096x2048 .f32) (r : Fin 4096) (c : Fin 128) :
    fn X Y (ix2 r c) = Ideal.cmp .olt (preThree X Y (ix3 r c 2)) (preBest X Y (ix2 r 15)) := by
  show cmpf .olt (shapeCast S4096x128 (extractStridedSlice S4096x128x1 ![0, 0, 2] (preThree X Y) slices_S4096x128x3_S4096x128x1_0_0_2) shapeCasts_S4096x128x1_S4096x128)
    (broadcastInDim S4096x128 ![0, 1] bcast_S4096x1_S4096x128_0_1 (extractStridedSlice S4096x1 ![0, 15] (preBest X Y) slices_S4096x16_S4096x1_0_15)) (ix2 r c) = _
  pointwise []

/-- Where the precondition holds, no class of a row holds more than two of its sixteen greatest. -/
theorem twoPerClass (X Y : FVec Ideal S4096x2048 .f32) (h : fn X Y = fun _ => 1#1) (r : Fin 4096) : TwoPerClass X Y r := by
  intro c
  have hlt : preThree X Y (ix3 r c 2) < preBest X Y (ix2 r 15) := by
    have h1 := (fn_at X Y r c).symm.trans (congrFun h (ix2 r c))
    by_contra hn
    have h0 : Ideal.cmp .olt (preThree X Y (ix3 r c 2)) (preBest X Y (ix2 r 15)) = 0#1 := by
      show BitVec.ofBool (decide _) = _
      rw [decide_eq_false hn]
      rfl
    rw [h0] at h1
    exact absurd h1 (by decide)
  have e3 := preThree_row X Y r c
  have e16 := preBest_row X Y r
  refine ⟨by rw [← e3, List.length_ofFn]; norm_num, by rw [← e16, List.length_ofFn]; norm_num, ?_⟩
  simp only [← e3, ← e16, List.getElem_ofFn]
  exact hlt

end Cert.Proof.Nearest

end
-- ==== Proof.Reference.lean ====
/-
  The reference, over the extended reals: its result is two less the mean, over every row and its sixteen greatest
  hidden-diagonal similarities, of the similarity less the row's own.
-/
module

public import proofs.«01_k».proof.Proof.Gen.ReferenceIdeal
public import proofs.«01_k».proof.Proof.TopK
public import proofs.«01_k».proof.Proof.KernelRow

@[expose] public section

noncomputable section

namespace Cert.Proof.Nearest

open Cert.ReferenceIdeal Cert.ReferenceIdeal.Facts₀ Cert.ReferenceIdeal.Facts
open Idealize.ShloMosaic Idealize.ShloMosaic.SortNet

/-- The reference's rows divided by their norms. -/
def refUnit (X : FVec Ideal S4096x2048 .f32) : FVec Ideal S4096x2048 .f32 :=
  Host.divf X (broadcastInDim S4096x2048 ![0, 1] bcast_S4096x1_S4096x2048_0_1 (maximumf
    (Host.sqrt (broadcastInDim S4096x1 ![0] bcast_S4096_S4096x1_0
      (Host.reduceAdd (mulf X X) (constant S_ .f32 0x00000000#32) reducesTo_S4096x2048_S4096_d1 h_S_)))
    (broadcastInDim S4096x1 ![] bcast_S_S4096x1 (constant S_ .f32 0x2B8CBCCC#32))))

theorem refUnit_at (X : FVec Ideal S4096x2048 .f32) (r : Fin 4096) (i : Fin 2048) :
    refUnit X (ix2 r i) = unitRow (row (R := 4096) X r) i := by
  pointwise [refUnit]
  rfl

/-- The reference's products of all the rows. -/
def refSims (X Y : FVec Ideal S4096x2048 .f32) : FVec Ideal S4096x4096 .f32 :=
  Host.dotGeneral dot_S4096x2048_S2048x4096_S4096x4096_1_0_0_1_n_n none (refUnit X)
    (transpose S2048x4096 [1, 0] (refUnit Y) transposes_S4096x2048_S2048x4096_1_0)

theorem refSims_at (X Y : FVec Ideal S4096x2048 .f32) (r c : Fin 4096) : refSims X Y (ix2 r c) = simAt X Y r c := by
  pointwise [refSims]
  exact Finset.sum_congr rfl fun i _ => congrArg₂ (· * ·) (refUnit_at X r i) (refUnit_at Y c i)

theorem minus_one : Ideal.ofBits .f32 0xBF800000#32 = -1 := by
  rw [neg_one_eq]
  simp [Ideal.ofBits, Ideal.ieee, -EReal.coe_mul]
  norm_num

theorem greatest : -Ideal.ofBits .f32 0x7F7FFFFF#32 = lowest := by
  rw [lowest_eq]
  simp [Ideal.ofBits, Ideal.ieee, -EReal.coe_mul]

theorem two_eq : Ideal.ofBits .f32 0x40000000#32 = ((2 : ℝ) : EReal) := by
  simp [Ideal.ofBits, Ideal.ieee, -EReal.coe_mul]
  norm_num

theorem count_eq : Ideal.ofBits .f32 0x47800000#32 = ((65536 : ℝ) : EReal) := by
  simp [Ideal.ofBits, Ideal.ieee, -EReal.coe_mul]
  norm_num

/-- The negated distances to the other rows. -/
def refMasked (X Y : FVec Ideal S4096x2048 .f32) : FVec Ideal S4096x4096 .f32 :=
  Host.negf (select (cmpi .eq (addi (iotaInDim S4096x4096 32 0) (broadcastInDim S4096x4096 ![] bcast_S_S4096x4096 (constantI S_ 32 0#32))) (iotaInDim S4096x4096 32 1))
    (broadcastInDim S4096x4096 ![] bcast_S_S4096x4096 (constant S_ .f32 0x7F7FFFFF#32))
    (mulf (broadcastInDim S4096x4096 ![] bcast_S_S4096x4096 (constant S_ .f32 0xBF800000#32)) (refSims X Y)))

theorem refMasked_at (X Y : FVec Ideal S4096x2048 .f32) (r c : Fin 4096) : refMasked X Y (ix2 r c) = hidden lowest X Y r c := by
  pointwise [refMasked]
  have hw : IntOp.addi (BitVec.ofNat 32 r.val) 0#32 = BitVec.ofNat 32 r.val := BitVec.add_zero _
  rw [refSims_at, hw, word_eq _ _ (by omega) (by omega), minus_one, neg_one_mul]
  unfold hidden Scalar.select
  by_cases h : c = r
  · subst h
    rw [if_pos rfl, if_pos rfl, if_pos (by decide), greatest]
  · rw [if_neg h, if_neg (fun e : r.val = c.val => h (Fin.ext e.symm)), if_neg (by decide), neg_neg]

/-- The reference's own distance of each row. -/
def refOwn (X Y : FVec Ideal S4096x2048 .f32) : FVec Ideal S4096 .f32 :=
  mulf (broadcastInDim S4096 ![] bcast_S_S4096 (constant S_ .f32 0xBF800000#32))
    (Host.reduceAdd (mulf (refUnit X) (refUnit Y)) (constant S_ .f32 0x00000000#32) reducesTo_S4096x2048_S4096_d1 h_S_)

theorem refOwn_at (X Y : FVec Ideal S4096x2048 .f32) (r : Fin 4096) : refOwn X Y (ix1 r) = -simAt X Y r r := by
  pointwise [refOwn]
  rw [minus_one, neg_one_mul]
  simp only [refUnit_at]
  rfl

/-- The reference's least distances of each row. -/
def refLeast (X Y : FVec Ideal S4096x2048 .f32) : FVec Ideal S4096x16 .f32 :=
  (Host.topK S4096x16 1 (FloatOps.cmpfTotal .gt) (refMasked X Y) sliceFits_S4096x4096_S4096x16).1

theorem refLeast_row (X Y : FVec Ideal S4096x2048 .f32) (r : Fin 4096) :
    (List.ofFn fun k : Fin 16 => (refLeast X Y (ix2 r k) : EReal)) = best X Y r := by
  refine (topK_rows (m := 16) (by norm_num) (refMasked X Y) sliceFits_S4096x4096_S4096x16 r).trans ?_
  exact congrArg (fun f : Fin 4096 → EReal => topList 16 (List.ofFn f)) (funext fun c => refMasked_at X Y r c)

/-- The reference's result. -/
def refResult (X Y : FVec Ideal S4096x2048 .f32) : FVec Ideal S_ .f32 :=
  Host.divf (Host.reduceAdd (maximumf (broadcastInDim S65536 ![] bcast_S_S65536 (constant S_ .f32 0x00000000#32))
    (addf (mulf (Host.negf (broadcastInDim S65536 ![] bcast_S_S65536 (constant S_ .f32 0x3F800000#32)))
      (subf (shapeCast S65536 (Host.negf (refLeast X Y)) shapeCasts_S4096x16_S65536)
        (mulf (broadcastInDim S65536 ![] bcast_S_S65536 (constant S_ .f32 0x3F800000#32))
          (shapeCast S65536 (broadcastInDim S4096x16 ![0] bcast_S4096_S4096x16_0 (refOwn X Y)) shapeCasts_S4096x16_S65536))))
      (broadcastInDim S65536 ![] bcast_S_S65536 (constant S_ .f32 0x40000000#32))))
    (constant S_ .f32 0x00000000#32) reducesTo_S65536_S_d0 h_S_) (constant S_ .f32 0x47800000#32)

/-- A row's sixteen greatest, as real numbers. -/
theorem best_reals (X Y : Vec Ideal S4096x2048 .f32) : ∃ b : Fin 4096 → Fin 16 → ℝ, ∀ r,
    (best X Y r = List.ofFn fun k => (b r k : EReal)) ∧ ∀ k, -1 ≤ b r k ∧ b r k ≤ 1 := by
  have h : ∀ (r : Fin 4096) (k : Fin 16), ∃ x : ℝ, (best X Y r)[k.val]'(by rw [length_best]; exact k.isLt) = x ∧ -1 ≤ x ∧ x ≤ 1 :=
    fun r k => best_real X Y r _ (List.getElem_mem _)
  choose b hb using h
  refine ⟨b, fun r => ⟨List.ext_getElem ?_ fun i h1 h2 => ?_, fun k => (hb r k).2⟩⟩
  · rw [length_best, List.length_ofFn]
  · rw [List.getElem_ofFn]
    exact (hb r ⟨i, by rw [length_best] at h1; exact h1⟩).1

/-- The rows' own similarities, as real numbers. -/
theorem own_reals (X Y : Vec Ideal S4096x2048 .f32) : ∃ s : Fin 4096 → ℝ, ∀ r, simAt X Y r r = s r ∧ -1 ≤ s r ∧ s r ≤ 1 := by
  choose s hs using fun r => simAt_real X Y r r
  exact ⟨s, hs⟩

/-- The reference's result, of the real numbers it comes from. -/
theorem refResult_eq (X Y : FVec Ideal S4096x2048 .f32) {b : Fin 4096 → Fin 16 → ℝ} {s : Fin 4096 → ℝ}
    (hb : ∀ r, (best X Y r = List.ofFn fun k => (b r k : EReal)) ∧ ∀ k, -1 ≤ b r k ∧ b r k ≤ 1)
    (hs : ∀ r, simAt X Y r r = s r ∧ -1 ≤ s r ∧ s r ≤ 1) (j : S_.Idx) :
    refResult X Y j = ((2 - (∑ r, ∑ k, (s r - b r k)) / 65536 : ℝ) : EReal) := by
  have hl : ∀ r k, (refLeast X Y (ix2 r k) : EReal) = b r k := by
    intro r k
    have h := (refLeast_row X Y r).trans (hb r).1
    exact congrFun (List.ofFn_injective h) k
  have ho : ∀ r, (refOwn X Y (ix1 r) : EReal) = -(s r : EReal) := fun r => by rw [refOwn_at, (hs r).1]
  pointwise [refResult]
  have hterm : ∀ x : Fin 65536, max (0 : EReal) (-1 * (-refLeast X Y (ix2 ⟨x.val / 16, by omega⟩ ⟨x.val % 16, by omega⟩)
      - refOwn X Y (ix1 ⟨x.val / 16, by omega⟩)) + Ideal.ofBits .f32 0x40000000#32)
        = ((2 - (s ⟨x.val / 16, by omega⟩ - b ⟨x.val / 16, by omega⟩ ⟨x.val % 16, by omega⟩) : ℝ) : EReal) := by
    intro x
    rw [hl, ho, two_eq, neg_one_mul]
    obtain ⟨-, h1, h2⟩ := hs ⟨x.val / 16, by omega⟩
    obtain ⟨h3, h4⟩ := (hb ⟨x.val / 16, by omega⟩).2 ⟨x.val % 16, by omega⟩
    rw [← EReal.coe_neg, ← EReal.coe_neg, ← EReal.coe_sub, ← EReal.coe_neg, ← EReal.coe_add, max_eq_right]
    · refine congrArg Real.toEReal ?_
      ring
    · exact EReal.coe_nonneg.mpr (by linarith)
  rw [Finset.sum_congr rfl fun x _ => hterm x, ← coe_sum, count_eq, Ideal.div_coe (by norm_num)]
  rw [← EReal.coe_mul, Fin.sum_univ_tiles 4096 16 rfl]
  refine congrArg Real.toEReal ?_
  have hplace : ∀ (r : Fin 4096) (k : Fin 16), (⟨(r.val * 16 + k.val) / 16, by omega⟩ : Fin 4096) = r ∧ (⟨(r.val * 16 + k.val) % 16, by omega⟩ : Fin 16) = k :=
    fun r k => ⟨Fin.ext (show (r.val * 16 + k.val) / 16 = r.val by omega), Fin.ext (show (r.val * 16 + k.val) % 16 = k.val by omega)⟩
  rw [Finset.sum_congr rfl fun r _ => Finset.sum_congr rfl fun k _ => show
    (2 - (s ⟨(r.val * 16 + k.val) / 16, by omega⟩ - b ⟨(r.val * 16 + k.val) / 16, by omega⟩ ⟨(r.val * 16 + k.val) % 16, by omega⟩) : ℝ) = 2 - (s r - b r k) by
      rw [(hplace r k).1, (hplace r k).2]]
  simp only [Finset.sum_sub_distrib, Finset.sum_const, Finset.card_univ, Fintype.card_fin, nsmul_eq_mul]
  ring

end Cert.Proof.Nearest

end
-- ==== Proof.Value.lean ====
/-
  The value: where the precondition holds, the kernel's result is the reference's, as extended reals.
-/
module

public import proofs.«01_k».proof.Proof.Frames
public import proofs.«01_k».proof.Proof.Reference
public import proofs.«01_k».proof.Proof.Precondition

@[expose] public section

noncomputable section

namespace Cert.Proof.Nearest

open Idealize.ShloMosaic Idealize.ShloMosaic.SortNet Idealize.SL.Sem
open Cert.KernelIdeal Cert.KernelIdeal.Gen

/-- The sixteen the kernel keeps of each row, as real numbers. -/
theorem kept_reals (X Y : Vec Ideal S4096x2048 .f32) : ∃ b : Fin 4096 → Fin 16 → ℝ, ∀ r, kept X Y r = List.ofFn fun k => (b r k : EReal) := by
  have h : ∀ (r : Fin 4096) (k : Fin 16), ∃ x : ℝ, (kept X Y r)[k.val]'(by rw [length_kept]; exact k.isLt) = x ∧ -1 ≤ x ∧ x ≤ 1 :=
    fun r k => kept_real X Y r _ (List.getElem_mem _)
  choose b hb using h
  refine ⟨b, fun r => List.ext_getElem ?_ fun i h1 h2 => ?_⟩
  · rw [length_kept, List.length_ofFn]
  · rw [List.getElem_ofFn]
    exact (hb r ⟨i, by rw [length_kept] at h1; exact h1⟩).1

/-- The kernel's result, of the real numbers it comes from. -/
theorem resultOf_eq (X Y : FVec Ideal S4096x2048 .f32) {b : Fin 4096 → Fin 16 → ℝ} {s : Fin 4096 → ℝ}
    (hb : ∀ r, kept X Y r = List.ofFn fun k => (b r k : EReal)) (hs : ∀ r, simAt X Y r r = s r ∧ -1 ≤ s r ∧ s r ≤ 1) (j : S_.Idx) :
    (resultOf (F := Ideal) (candOfArgs (F := Ideal) X Y) j : EReal) = ((2 - (∑ r, ∑ k, (s r - b r k)) / 65536 : ℝ) : EReal) := by
  have hrow : ∀ r, ((rowLow (candOfArgs (F := Ideal) X Y) r).map OrderDual.ofDual).sum = ((∑ k, (s r - b r k) : ℝ) : EReal) := by
    intro r
    rw [rowLow_sum X Y r, hb r, (hs r).1, List.map_ofFn, List.sum_ofFn, coe_sum]
    exact Finset.sum_congr rfl fun k _ => (EReal.coe_sub _ _).symm
  have hsum : ∑ j : S32x16.Idx, (partials (candOfArgs (F := Ideal) X Y) j : EReal) = ((∑ r, ∑ k, (s r - b r k) : ℝ) : EReal) := by
    rw [sum_partials, coe_sum]
    exact Finset.sum_congr rfl fun r _ => hrow r
  have hred : Host.reduceAdd (partials (candOfArgs (F := Ideal) X Y)) (constant S_ .f32 0x00000000#32) reducesTo_S32x16_S_d0_1 h_S_ j
      = ∑ j : S32x16.Idx, (partials (candOfArgs (F := Ideal) X Y) j : EReal) := by
    pointwise []
    exact (sum_idx2 _).symm
  show Ideal.ofBits .f32 0x40000000#32 - Ideal.div (Host.reduceAdd (partials (candOfArgs (F := Ideal) X Y)) (constant S_ .f32 0x00000000#32) reducesTo_S32x16_S_d0_1 h_S_ j)
    (Ideal.ofBits .f32 0x47800000#32) = _
  rw [hred, hsum, two_eq, count_eq, Ideal.div_coe (by norm_num), ← EReal.coe_mul, ← EReal.coe_sub]
  refine congrArg Real.toEReal ?_
  ring

/-- Where the precondition holds, the kernel's result is the reference's. -/
theorem resultOf_eq_refResult (X Y : FVec Ideal S4096x2048 .f32) (h : Cert.Pre_two_per_class.fn X Y = fun _ => 1#1) :
    resultOf (F := Ideal) (candOfArgs (F := Ideal) X Y) = refResult X Y := by
  obtain ⟨b, hb⟩ := best_reals X Y
  obtain ⟨s, hs⟩ := own_reals X Y
  funext j
  exact (resultOf_eq X Y (fun r => (kept_eq_best X Y r (twoPerClass X Y h r)).trans (hb r).1) hs j).trans (refResult_eq X Y hb hs j).symm

/-- The kernel's frame, among the inputs the precondition admits. -/
theorem frame_ideal_pre : Cert.quiescent_KernelIdeal_pre_two_per_class := fun m ρ _ => frame_ideal m ρ trivial

/-- The reference's. -/
theorem frame_reference_pre : Cert.quiescent_ReferenceIdeal_pre_two_per_class := fun m ρ _ => frame_reference m ρ trivial

/-- From memories that agree on the arguments, where the precondition holds, both run and end with equal results. -/
theorem value : Cert.algebraic_KernelIdeal_ReferenceIdeal_pre_two_per_class := by
  intro m g m' g' hpre hargs
  refine ⟨fun c => resultOf (candsAt m c), ?_, ?_⟩
  · exact (θ_run Cert.KernelIdeal.defs _ _).mono (fun r h c => ⟨(h.1 c).2.2, (h.1 c).1, (h.1 c).2.1⟩) (run_main (F := Ideal) m g)
  · refine (θ_run Cert.ReferenceIdeal.defs _ _).mono (fun r h c => ⟨?_, (h c).2⟩) (Cert.ReferenceIdeal.Value.run (F := Ideal) m' g')
    refine (h c).1.trans ?_
    rw [(hargs c).1, (hargs c).2]
    exact (resultOf_eq_refResult _ _ (hpre c)).symm

end Cert.Proof.Nearest

end
-- ==== Proof.Bound.lean ====
/-
  What holds of the kernel's result whatever the arrays hold, over the extended reals: it never exceeds the reference's.
-/
module

public import proofs.«01_k».proof.Post_never_above
public import proofs.«01_k».proof.Proof.Value

@[expose] public section

noncomputable section

namespace Cert.Proof.Nearest

open Idealize.ShloMosaic Idealize.ShloMosaic.SortNet Idealize.SL.Sem
open Cert.KernelIdeal Cert.KernelIdeal.Gen

/-- The shapes the bound is written over fit together. -/
instance aboveFacts : Cert.Post_never_above.Facts where
  reducesTo_S4096x2048_S4096_d1 := by decide
  h_S_ := by decide
  bcast_S4096_S4096x1_0 := by decide
  bcast_S_S4096x1 := by decide
  bcast_S4096x1_S4096x2048_0_1 := by decide
  transposes_S4096x2048_S2048x4096_1_0 := by decide
  bcast_S_S4096x4096 := by decide
  bcast_S_S4096 := by decide
  bcast_S4096_S4096x16_0 := by decide
  shapeCasts_S4096x16_S65536 := by decide
  sliceFits_S4096x4096_S4096x16 := by decide
  bcast_S_S65536 := by decide
  reducesTo_S65536_S_d0 := by decide
  dot_S4096x2048_S2048x4096_S4096x4096_1_0_0_1_n_n_wf := by decide

/-- The bound's other side is the reference's result. -/
theorem above_at (X Y : FVec Ideal S4096x2048 .f32) (out : FVec Ideal S_ .f32) (j : S_.Idx) :
    Cert.Post_never_above.fn X Y out j = Ideal.cmp .ole (out j) (refResult X Y j) := rfl

/-- The kernel's result is at most the reference's. -/
theorem resultOf_le (X Y : FVec Ideal S4096x2048 .f32) (j : S_.Idx) :
    (resultOf (F := Ideal) (candOfArgs (F := Ideal) X Y) j : EReal) ≤ refResult X Y j := by
  obtain ⟨b, hb⟩ := best_reals X Y
  obtain ⟨t, ht⟩ := kept_reals X Y
  obtain ⟨s, hs⟩ := own_reals X Y
  rw [resultOf_eq X Y ht hs j, refResult_eq X Y hb hs j, EReal.coe_le_coe_iff]
  have hle : ∀ r k, t r k ≤ b r k := by
    intro r k
    have h := kept_le_best X Y r k.val (by rw [length_kept]; exact k.isLt) (by rw [length_best]; exact k.isLt)
    simp only [ht r, (hb r).1, List.getElem_ofFn] at h
    exact EReal.coe_le_coe_iff.mp h
  have hsum : ∑ r, ∑ k, (s r - b r k) ≤ ∑ r, ∑ k, (s r - t r k) :=
    Finset.sum_le_sum fun r _ => Finset.sum_le_sum fun k _ => by linarith [hle r k]
  linarith

/-- Whatever the arrays hold, the kernel runs and ends with a result at most the reference's. -/
theorem never_above : Cert.holds_KernelIdeal_never_above := by
  intro m g _
  refine (θ_run Cert.KernelIdeal.defs _ _).mono (fun r h c => ⟨(h.1 c).1, (h.1 c).2.1, ?_⟩) (run_main (F := Ideal) m g)
  funext j
  rw [above_at]
  have h' : r.2.mem (outLoc c) = resultOf (candsAt m c) := (h.1 c).2.2
  show BitVec.ofBool (decide (_ ≤ _)) = _
  rw [decide_eq_true]
  · rfl
  · rw [h']
    exact resultOf_le _ _ j

end Cert.Proof.Nearest

end
-- ==== Proof.Kept.lean ====
/-
  What the kernel computes whatever the arrays hold, over the extended reals: two less the mean, over every row and the sixteen
  greatest among the two greatest of each of its classes, of the row's own similarity less that one.
-/
module

public import proofs.«01_k».proof.Post_of_two_per_class
public import proofs.«01_k».proof.Proof.Value

@[expose] public section

noncomputable section

namespace Cert.Proof.Nearest

open Idealize.ShloMosaic Idealize.ShloMosaic.SortNet Idealize.SL.Sem
open Cert.Post_of_two_per_class Cert.Post_of_two_per_class.Facts

/-- The shapes the description is written over fit together. -/
instance keptFacts : Cert.Post_of_two_per_class.Facts where
  reducesTo_S4096x2048_S4096_d1 := by decide
  h_S_ := by decide
  bcast_S4096_S4096x1_0 := by decide
  bcast_S_S4096x1 := by decide
  bcast_S4096x1_S4096x2048_0_1 := by decide
  transposes_S4096x2048_S2048x4096_1_0 := by decide
  bcast_S_S4096x4096 := by decide
  shapeCasts_S4096x4096_S4096x32x128 := by decide
  transposes_S4096x32x128_S4096x128x32_0_2_1 := by decide
  sliceFits_S4096x128x32_S4096x128x2 := by decide
  shapeCasts_S4096x128x2_S4096x256 := by decide
  sliceFits_S4096x256_S4096x16 := by decide
  bcast_S4096x1_S4096x16_0_1 := by decide
  reducesTo_S4096x16_S_d0_1 := by decide
  dot_S4096x2048_S2048x4096_S4096x4096_1_0_0_1_n_n_wf := by decide

/-- The two greatest of each class. -/
def keptTwo (X Y : FVec Ideal S4096x2048 .f32) : FVec Ideal S4096x128x2 .f32 :=
  (Host.topK S4096x128x2 2 (FloatOps.cmpfTotal .gt) (preClass X Y) sliceFits_S4096x128x32_S4096x128x2).1

theorem keptTwo_row (X Y : FVec Ideal S4096x2048 .f32) (r : Fin 4096) (c : Fin 128) :
    (List.ofFn fun k : Fin 2 => (keptTwo X Y (ix3 r c k) : EReal)) = topList 2 (classOf (hidden lowest X Y r) c) := by
  refine (topK_last (m := 2) (by norm_num) (preClass X Y) sliceFits_S4096x128x32_S4096x128x2 r c).trans ?_
  exact congrArg (fun f : Fin 32 → EReal => topList 2 (List.ofFn f)) (funext fun g => preClass_at X Y r c g)

/-- The same, a row's classes one after the other. -/
def keptLine (X Y : FVec Ideal S4096x2048 .f32) : FVec Ideal S4096x256 .f32 :=
  shapeCast S4096x256 (keptTwo X Y) shapeCasts_S4096x128x2_S4096x256

theorem keptLine_at (X Y : FVec Ideal S4096x2048 .f32) (r : Fin 4096) (c : Fin 128) (k : Fin 2) :
    keptLine X Y (ix2 r ⟨c.val * 2 + k.val, by omega⟩) = keptTwo X Y (ix3 r c k) := by
  pointwise [keptLine]

theorem keptLine_row (X Y : FVec Ideal S4096x2048 .f32) (r : Fin 4096) :
    (List.ofFn fun k : Fin 256 => (keptLine X Y (ix2 r k) : EReal)) = (classes X Y r).flatMap (topList 2) := by
  refine (List.ofFn_mul (m := 128) (n := 2) fun k : Fin 256 => (keptLine X Y (ix2 r k) : EReal)).trans ?_
  rw [List.flatMap_map, List.flatMap_def, List.ofFn_eq_map]
  refine congrArg List.flatten (List.map_congr_left fun c _ => ?_)
  rw [← keptTwo_row X Y r c]
  exact congrArg List.ofFn (funext fun k => keptLine_at X Y r c k)

/-- The sixteen greatest among those. -/
def keptBest (X Y : FVec Ideal S4096x2048 .f32) : FVec Ideal S4096x16 .f32 :=
  (Host.topK S4096x16 1 (FloatOps.cmpfTotal .gt) (keptLine X Y) sliceFits_S4096x256_S4096x16).1

theorem keptBest_row (X Y : FVec Ideal S4096x2048 .f32) (r : Fin 4096) :
    (List.ofFn fun k : Fin 16 => (keptBest X Y (ix2 r k) : EReal)) = kept X Y r := by
  refine (topK_rows (m := 16) (by norm_num) (keptLine X Y) sliceFits_S4096x256_S4096x16 r).trans ?_
  exact congrArg (topList 16) (keptLine_row X Y r)

/-- The rows' own similarities. -/
def keptOwn (X Y : FVec Ideal S4096x2048 .f32) : FVec Ideal S4096 .f32 :=
  Host.reduceAdd (mulf (preUnit X) (preUnit Y)) (constant S_ .f32 0x00000000#32) reducesTo_S4096x2048_S4096_d1 h_S_

theorem keptOwn_at (X Y : FVec Ideal S4096x2048 .f32) (r : Fin 4096) : keptOwn X Y (ix1 r) = simAt X Y r r := by
  pointwise [keptOwn]
  simp only [preUnit_at]
  rfl

/-- How far past the row's own each of the sixteen is. -/
def keptGap (X Y : FVec Ideal S4096x2048 .f32) : FVec Ideal S4096x16 .f32 :=
  subf (broadcastInDim S4096x16 ![0, 1] bcast_S4096x1_S4096x16_0_1 (broadcastInDim S4096x1 ![0] bcast_S4096_S4096x1_0 (keptOwn X Y))) (keptBest X Y)

theorem keptGap_at (X Y : FVec Ideal S4096x2048 .f32) (r : Fin 4096) (k : Fin 16) :
    keptGap X Y (ix2 r k) = simAt X Y r r - keptBest X Y (ix2 r k) := by
  pointwise [keptGap]
  rw [keptOwn_at]

/-- Two less their mean. -/
def keptResult (X Y : FVec Ideal S4096x2048 .f32) : FVec Ideal S_ .f32 :=
  subf (constant S_ .f32 0x40000000#32) (Host.divf
    (Host.reduceAdd (keptGap X Y) (constant S_ .f32 0x00000000#32) reducesTo_S4096x16_S_d0_1 h_S_) (constant S_ .f32 0x47800000#32))

theorem keptResult_eq (X Y : FVec Ideal S4096x2048 .f32) {b : Fin 4096 → Fin 16 → ℝ} {s : Fin 4096 → ℝ}
    (hb : ∀ r, kept X Y r = List.ofFn fun k => (b r k : EReal)) (hs : ∀ r, simAt X Y r r = s r ∧ -1 ≤ s r ∧ s r ≤ 1) (j : S_.Idx) :
    keptResult X Y j = ((2 - (∑ r, ∑ k, (s r - b r k)) / 65536 : ℝ) : EReal) := by
  have hl : ∀ r k, (keptGap X Y (ix2 r k) : EReal) = ((s r - b r k : ℝ) : EReal) := by
    intro r k
    have h : (keptBest X Y (ix2 r k) : EReal) = b r k := congrFun (List.ofFn_injective ((keptBest_row X Y r).trans (hb r))) k
    rw [keptGap_at, h, (hs r).1, EReal.coe_sub]
  have hred : Host.reduceAdd (keptGap X Y) (constant S_ .f32 0x00000000#32) reducesTo_S4096x16_S_d0_1 h_S_ j
      = ((∑ r, ∑ k, (s r - b r k) : ℝ) : EReal) := by
    pointwise []
    rw [coe_sum]
    refine Finset.sum_congr rfl fun r _ => ?_
    rw [coe_sum]
    exact Finset.sum_congr rfl fun k _ => hl r k
  show Ideal.ofBits .f32 0x40000000#32 - Ideal.div (Host.reduceAdd (keptGap X Y) (constant S_ .f32 0x00000000#32) reducesTo_S4096x16_S_d0_1 h_S_ j)
    (Ideal.ofBits .f32 0x47800000#32) = _
  rw [hred, two_eq, count_eq, Ideal.div_coe (by norm_num), ← EReal.coe_mul, ← EReal.coe_sub]
  refine congrArg Real.toEReal ?_
  ring

theorem kept_at (X Y : FVec Ideal S4096x2048 .f32) (out : FVec Ideal S_ .f32) (j : S_.Idx) :
    fn X Y out j = Ideal.cmp .oeq (out j) (keptResult X Y j) := rfl

/-- The kernel's result is the one described. -/
theorem resultOf_eq_keptResult (X Y : FVec Ideal S4096x2048 .f32) (j : S_.Idx) :
    (resultOf (F := Ideal) (candOfArgs (F := Ideal) X Y) j : EReal) = keptResult X Y j := by
  obtain ⟨b, hb⟩ := kept_reals X Y
  obtain ⟨s, hs⟩ := own_reals X Y
  exact (resultOf_eq X Y hb hs j).trans (keptResult_eq X Y hb hs j).symm

/-- Whatever the arrays hold, the kernel runs and ends with the result described. -/
theorem of_two_per_class : Cert.holds_KernelIdeal_of_two_per_class := by
  intro m g _
  refine (θ_run Cert.KernelIdeal.defs _ _).mono (fun r h c => ⟨(h.1 c).1, (h.1 c).2.1, ?_⟩) (run_main (F := Ideal) m g)
  funext j
  rw [kept_at]
  have h' : r.2.mem (outLoc c) = resultOf (candsAt m c) := (h.1 c).2.2
  show BitVec.ofBool (decide (_ = _)) = _
  rw [decide_eq_true]
  · rfl
  · rw [h']
    exact resultOf_eq_keptResult _ _ j

end Cert.Proof.Nearest

end
-- ==== Proof.lean ====
/- The certificate: the frames of the kernel's two readings and of the reference; under the precondition, the equality of the
   kernel's result and the reference's over the extended reals; and what the kernel's result is whatever the arrays hold. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Precondition
public import proofs.«01_k».proof.Proof.Value
public import proofs.«01_k».proof.Proof.Bound
public import proofs.«01_k».proof.Proof.Kept

@[expose] public section

noncomputable section

namespace Cert.Proof

theorem claim : Cert.Claim := ⟨Cert.Kernel.Gen.facts, Cert.KernelIdeal.Gen.facts, Cert.ReferenceIdeal.Gen.facts, Nearest.preFacts, Nearest.aboveFacts, Nearest.keptFacts,
  Nearest.frame_kernel, Nearest.frame_ideal, Nearest.frame_ideal_pre, Nearest.frame_reference, Nearest.frame_reference_pre, trivial, Nearest.value,
  Nearest.never_above, Nearest.of_two_per_class⟩

end Cert.Proof

end
